-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x4x64 .f32 := (extf .f32 · bitsLt_bf16_f32) main_arg2
  let main_v12 : FVec F S2x128x4x64 .f32 := Host.absf main_v11
  let main_cst_2 : FVec F S_ .f32 := constant S_ .f32 0x7F800000#32
  let main_v13 : FVec F S2x128x4x64 .f32 := broadcastInDim S2x128x4x64 ![] bcast_S_S2x128x4x64 main_cst_2
  let main_v14 : IVec S2x128x4x64 1 := cmpf .olt main_v12 main_v13
  let main_c_3 : IVec S_ 1 := constantI S_ 1 1#1
  let main_v15 : IVec S_ 1 := (fun x v => Host.reduce IntOp.andi x v reducesTo_S2x128x4x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x128x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x4096x4x64 .f32 := (extf .f32 · bitsLt_bf16_f32) main_arg2
  let main_v12 : FVec F S2x4096x4x64 .f32 := Host.absf main_v11
  let main_cst_2 : FVec F S_ .f32 := constant S_ .f32 0x7F800000#32
  let main_v13 : FVec F S2x4096x4x64 .f32 := broadcastInDim S2x4096x4x64 ![] bcast_S_S2x4096x4x64 main_cst_2
  let main_v14 : IVec S2x4096x4x64 1 := cmpf .olt main_v12 main_v13
  let main_c_3 : IVec S_ 1 := constantI S_ 1 1#1
  let main_v15 : IVec S_ 1 := (fun x v => Host.reduce IntOp.andi x v reducesTo_S2x4096x4x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x128x256 : Shape := ⟨3, ![2, 128, 256]⟩
abbrev S2x4x128x128 : Shape := ⟨4, ![2, 4, 128, 128]⟩
abbrev S5x2x4x128x128 : Shape := ⟨5, ![5, 2, 4, 128, 128]⟩
abbrev S5 : Shape := ⟨1, ![5]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S128x128 : Shape := ⟨2, ![128, 128]⟩
abbrev S128x64 : Shape := ⟨2, ![128, 64]⟩
abbrev S1x128x64 : Shape := ⟨3, ![1, 128, 64]⟩
abbrev S1x128x1x64 : Shape := ⟨4, ![1, 128, 1, 64]⟩
abbrev S1x1x128x64 : Shape := ⟨4, ![1, 1, 128, 64]⟩
abbrev S_ : Shape := ⟨0, ![]⟩
abbrev S1 : Shape := ⟨1, ![1]⟩
abbrev S1x2x4x128x128 : Shape := ⟨5, ![1, 2, 4, 128, 128]⟩
abbrev S1x1x128x1 : Shape := ⟨4, ![1, 1, 128, 1]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x128x256, .f32⟩
  | .local _ .vmem, ⟨7, _⟩ => ⟨S2x4x128x128, .f32⟩
  | .local _ .vmem, ⟨8, _⟩ => ⟨S2x4x128x128, .bf16⟩
  | .local _ .vmem, ⟨9, _⟩ => ⟨S5x2x4x128x128, .bf16⟩
  | .local _ .vmem, ⟨10, _⟩ => ⟨S2x128x256, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v269 : BitVec 32 := Scalar.xori v2 c1_i32_226
  let c1_i32_228 : BitVec 32 := 1#32
  let v270 : BitVec 32 := Scalar.muli v269 c1_i32_228
  let v271 : BitVec 32 := Scalar.addi c0_i32_229 v270
  v271.toNat
def k0_dev2 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_230 : BitVec 32 := 2#32
  let v272 : BitVec 32 := Scalar.xori v2 c2_i32_230
  let c1_i32_232 : BitVec 32 := 1#32
  let v273 : BitVec 32 := Scalar.muli v272 c1_i32_232
  let v274 : BitVec 32 := Scalar.addi c0_i32_233 v273
  v274.toNat
def k0_dev3 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_234 : BitVec 32 := 4#32
  let v275 : BitVec 32 := Scalar.xori v2 c4_i32_234
  let c1_i32_236 : BitVec 32 := 1#32
  let v276 : BitVec 32 := Scalar.muli v275 c1_i32_236
  let v277 : BitVec 32 := Scalar.addi c0_i32_237 v276
  v277.toNat
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v278 : BitVec 32 := Scalar.xori v2 c8_i32
  let c1_i32_239 : BitVec 32 := 1#32
  let v279 : BitVec 32 := Scalar.muli v278 c1_i32_239
  let v280 : BitVec 32 := Scalar.addi c0_i32_240 v279
  v280.toNat
def k0_dev5 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v281 : BitVec 32 := Scalar.xori v2 c16_i32
  let c1_i32_242 : BitVec 32 := 1#32
  let v282 : BitVec 32 := Scalar.muli v281 c1_i32_242
  let v283 : BitVec 32 := Scalar.addi c0_i32_243 v282
  v283.toNat
def k0_dev6 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_244 : BitVec 32 := 1#32
  let v284 : BitVec 32 := Scalar.xori v2 c1_i32_244
  let c1_i32_256 : BitVec 32 := 1#32
  let v290 : BitVec 32 := Scalar.muli v284 c1_i32_256
  let v291 : BitVec 32 := Scalar.addi c0_i32_257 v290
  v291.toNat
def k0_dev7 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_292 : BitVec 32 := 2#32
  let v316 : BitVec 32 := Scalar.xori v2 c2_i32_292
  let c1_i32_304 : BitVec 32 := 1#32
  let v322 : BitVec 32 := Scalar.muli v316 c1_i32_304
  let v323 : BitVec 32 := Scalar.addi c0_i32_305 v322
  v323.toNat
def k0_dev8 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_340 : BitVec 32 := 4#32
  let v348 : BitVec 32 := Scalar.xori v2 c4_i32_340
  let c1_i32_352 : BitVec 32 := 1#32
  let v354 : BitVec 32 := Scalar.muli v348 c1_i32_352
  let v355 : BitVec 32 := Scalar.addi c0_i32_353 v354
  v355.toNat
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_388 : BitVec 32 := 8#32
  let v380 : BitVec 32 := Scalar.xori v2 c8_i32_388
  let c1_i32_399 : BitVec 32 := 1#32
  let v386 : BitVec 32 := Scalar.muli v380 c1_i32_399
  let v387 : BitVec 32 := Scalar.addi c0_i32_400 v386
  v387.toNat
def k0_dev10 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_435 : BitVec 32 := 16#32
  let v412 : BitVec 32 := Scalar.xori v2 c16_i32_435
  let c1_i32_447 : BitVec 32 := 1#32
  let v418 : BitVec 32 := Scalar.muli v412 c1_i32_447
  let v419 : BitVec 32 := Scalar.addi c0_i32_448 v418
  v419.toNat
def k0_dev11 (d0 : Dev nD) : Nat :=
  let c0_i32_591_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_588_r0 : BitVec 32 := 1#32
  let v535_r0 : BitVec 32 := Scalar.xori v2 c1_i32_588_r0
  let c1_i32_590_r0 : BitVec 32 := 1#32
  let v536_r0 : BitVec 32 := Scalar.muli v535_r0 c1_i32_590_r0
  let v537_r0 : BitVec 32 := Scalar.addi c0_i32_591_r0 v536_r0
  v537_r0.toNat
def k0_dev12 (d0 : Dev nD) : Nat :=
  let c0_i32_595_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_592_r0 : BitVec 32 := 2#32
  let v538_r0 : BitVec 32 := Scalar.xori v2 c2_i32_592_r0
  let c1_i32_594_r0 : BitVec 32 := 1#32
  let v539_r0 : BitVec 32 := Scalar.muli v538_r0 c1_i32_594_r0
  let v540_r0 : BitVec 32 := Scalar.addi c0_i32_595_r0 v539_r0
  v540_r0.toNat
def k0_dev13 (d0 : Dev nD) : Nat :=
  let c0_i32_599_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_596_r0 : BitVec 32 := 4#32
  let v541_r0 : BitVec 32 := Scalar.xori v2 c4_i32_596_r0
  let c1_i32_598_r0 : BitVec 32 := 1#32
  let v542_r0 : BitVec 32 := Scalar.muli v541_r0 c1_i32_598_r0
  let v543_r0 : BitVec 32 := Scalar.addi c0_i32_599_r0 v542_r0
  v543_r0.toNat
def k0_dev14 (d0 : Dev nD) : Nat :=
  let c0_i32_603_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_600_r0 : BitVec 32 := 8#32
  let v544_r0 : BitVec 32 := Scalar.xori v2 c8_i32_600_r0
  let c1_i32_602_r0 : BitVec 32 := 1#32
  let v545_r0 : BitVec 32 := Scalar.muli v544_r0 c1_i32_602_r0
  let v546_r0 : BitVec 32 := Scalar.addi c0_i32_603_r0 v545_r0
  v546_r0.toNat
def k0_dev15 (d0 : Dev nD) : Nat :=
  let c0_i32_607_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_604_r0 : BitVec 32 := 16#32
  let v547_r0 : BitVec 32 := Scalar.xori v2 c16_i32_604_r0
  let c1_i32_606_r0 : BitVec 32 := 1#32
  let v548_r0 : BitVec 32 := Scalar.muli v547_r0 c1_i32_606_r0
  let v549_r0 : BitVec 32 := Scalar.addi c0_i32_607_r0 v548_r0
  v549_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S4096 : Shape := ⟨1, ![4096]⟩
abbrev S1x4096 : Shape := ⟨2, ![1, 4096]⟩
abbrev S128x4096 : Shape := ⟨2, ![128, 4096]⟩
abbrev S2x4x128x4096 : Shape := ⟨4, ![2, 4, 128, 4096]⟩
abbrev S1x1x128x4096 : Shape := ⟨4, ![1, 1, 128, 4096]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x256, .bf16⟩
  | 2 => ⟨S2x4096x4x64, .bf16⟩
  | 3 => ⟨S2x4096x4x64, .bf16⟩
  | 4 => ⟨S256x512, .bf16⟩
  | 5 => ⟨S2x128x256, .f32⟩
  | 6 => ⟨S2x128x256, .bf16⟩
  | 7 => ⟨S2x128x4x64, .bf16⟩
  | 8 => ⟨S128, .i32⟩
  | 9 => ⟨S_, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i32⟩
  | 18 => ⟨S128, .i32⟩
  | 19 => ⟨S_, .i32⟩
  | 20 => ⟨S128, .i32⟩
  | 21 => ⟨S128, .i1⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S4096, .i32⟩
  | 29 => ⟨S_, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S4096, .i32⟩
  | 47 => ⟨S1x4096, .i32⟩
  | 48 => ⟨S128x4096, .i32⟩
  | 49 => ⟨S128x4096, .i32⟩
  | 50 => ⟨S128x4096, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x4096, .i32⟩
  | 58 => ⟨S1x4096, .i32⟩
  | 59 => ⟨S_, .i32⟩
  | 60 => ⟨S1x4096, .i32⟩
  | 61 => ⟨S1x4096, .i1⟩
  | 62 => ⟨S_, .i32⟩
  | 63 => ⟨S1x4096, .i32⟩
  | 64 => ⟨S1x4096, .i1⟩
  | 65 => ⟨S_, .i32⟩
  | 66 => ⟨S_, .i1⟩
  | 67 => ⟨S1x4096, .i1⟩
  | 68 => ⟨S1x4096, .i1⟩
  | 69 => ⟨S1x4096, .i1⟩
  | 70 => ⟨S1x4096, .i32⟩
  | 71 => ⟨S1x4096, .i32⟩
  | 72 => ⟨S1x4096, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i1⟩
  | 84 => ⟨S_, .i32⟩
  | 85 => ⟨S128x1, .i32⟩
  | 86 => ⟨S128x1, .i1⟩
  | 87 => ⟨S_, .i32⟩
  | 88 => ⟨S_, .i1⟩
  | 89 => ⟨S128x1, .i1⟩
  | 90 => ⟨S128x1, .i1⟩
  | 91 => ⟨S128x1, .i1⟩
  | 92 => ⟨S128x1, .i32⟩
  | 93 => ⟨S128x1, .i32⟩
  | 94 => ⟨S128x1, .i32⟩
  | 95 => ⟨S128x4096, .i32⟩
  | 96 => ⟨S128x4096, .i32⟩
  | 97 => ⟨S128x4096, .i1⟩
  | 98 => ⟨S128x4096, .i1⟩
  | 99 => ⟨S2x4x128x4096, .f32⟩
  | 100 => ⟨S2x4x128x4096, .bf16⟩
  | 101 => ⟨S2x4x128x4096, .f32⟩
  | 102 => ⟨S_, .f32⟩
  | 103 => ⟨S2x4x128x4096, .f32⟩
  | 104 => ⟨S2x4x128x4096, .f32⟩
  | 105 => ⟨S1x1x128x4096, .i1⟩
  | 106 => ⟨S_, .f32⟩
  | 107 => ⟨S_, .f32⟩
  | 108 => ⟨S2x4x128x4096, .i1⟩
  | 109 => ⟨S2x4x128x4096, .f32⟩
  | 110 => ⟨S2x4x128x4096, .f32⟩
  | 111 => ⟨S_, .f32⟩
  | 112 => ⟨S2x4x128, .f32⟩
  | 113 => ⟨S2x4x128x1, .f32⟩
  | 114 => ⟨S2x4x128x4096, .f32⟩
  | 115 => ⟨S2x4x128x4096, .f32⟩
  | 116 => ⟨S2x4x128x4096, .f32⟩
  | 117 => ⟨S_, .i1⟩
  | 118 => ⟨S128, .i1⟩
  | 119 => ⟨S1x1x128x1, .i1⟩
  | 120 => ⟨S_, .f32⟩
  | 121 => ⟨S2x4x128, .f32⟩
  | 122 => ⟨S2x4x128x1, .f32⟩
  | 123 => ⟨S_, .f32⟩
  | 124 => ⟨S_, .f32⟩
  | 125 => ⟨S2x4x128x1, .i1⟩
  | 126 => ⟨S2x4x128x1, .f32⟩
  | 127 => ⟨S2x4x128x1, .f32⟩
  | _ => ⟨S2x128x512, .bf16⟩

abbrev hbmTy0_1 (i : Nat) : BufTy := match i % 128 with
  | 0 => ⟨S2x4x128x4096, .f32⟩
  | 1 => ⟨S2x4x128x4096, .f32⟩
  | 2 => ⟨S1x1x128x1, .i1⟩
  | 3 => ⟨S_, .f32⟩
  | 4 => ⟨S_, .f32⟩
  | 5 => ⟨S2x4x128x4096, .i1⟩
  | 6 => ⟨S2x4x128x4096, .f32⟩
  | 7 => ⟨S2x4x128x4096, .f32⟩
  | 8 => ⟨S2x4096x4x64, .f32⟩
  | 9 => ⟨S2x4x64x128, .f32⟩
  | 10 => ⟨S2x128x4x64, .f32⟩
  | 11 => ⟨S2x128x256, .f32⟩
  | 12 => ⟨S256x512, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.KernelIdealRun.Head.lean ====
/-
  The first stretch of the kernel body on one device: the projection of the queries, the mask and the device's own
  partial sums, up to the last store into the accumulator and before the first signal.

  `head` is the printed parts 1 to 8 followed by the stores of part 9; `headRun` is its symbolic execution: from the
  inputs' contents alone it finds what the accumulator holds afterwards.
-/
module

public import proofs.«01_k».proof.Proof.Gen.KernelIdeal
public import proofs.«01_k».proof.Proof.Gen.KernelIdeal.Skeleton
public import Idealize.ShloMosaic.Lib.Pipeline.Kit
public import Idealize.ShloMosaic.Lib.Tactic

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's copy of the rounds library and the exchange's, whose duties are named by
    the five bits of the device number. -/
abbrev UB : Type := URounds (GSem nD τ sig) (Fin 5)
abbrev UU : Type := UR sig nD τ × UB

local notation "𝕄" => MT nD τ sig Unit (Elt F) ℕ UU ℕ

/-- A buffer's contents on core `c`, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Prog

variable (a0 : Memref sig .tc .vmem S2x128x512 .bf16) (h0 : a0.IsWhole) (a1 : Memref sig .tc .vmem S512x256 .bf16) (h1 : a1.IsWhole)
  (a2 : Memref sig .tc .vmem S2x128x4x64 .bf16) (h2 : a2.IsWhole) (a3 : Memref sig .tc .vmem S2x128x4x64 .bf16) (h3 : a3.IsWhole)
  (a4 : Memref sig .tc .vmem S256x512 .bf16) (h4 : a4.IsWhole) (a5 : Memref sig .tc .vmem S2x128x512 .f32) (h5 : a5.IsWhole)
  (a6 : Memref sig .tc .vmem S2x128x256 .f32) (h6 : a6.IsWhole) (a7 : Memref sig .tc .vmem S2x4x128x128 .f32) (h7 : a7.IsWhole)
  (a8 : Memref sig .tc .vmem S2x4x128x128 .bf16) (h8 : a8.IsWhole) (a9 : Memref sig .tc .vmem S5x2x4x128x128 .bf16) (h9 : a9.IsWhole)
  (a10 : Memref sig .tc .vmem S2x128x256 .f32) (h10 : a10.IsWhole) (a11 : DmaSems sig S5) (a12 : DmaSems sig S5) (s : Sems sig S_)

/-- The stores of part 9: the last tile of the accumulator's seventh block and its eighth block. -/
def lastStores (v106 : IVec S128x128 1) (v107 : FVec F S128x64 .f32) (v247 : FVec F S1x1x128x64 .f32) : Prog (TpuEff nD τ sig (Elt F) Λ₀ .tc) PUnit := do
  Prog.lift (.store a7 (Rect.unit (s := S2x4x128x128) ![1, 2, 0, 64] S1x1x128x64.size inb_S2x4x128x128_S1x1x128x64_1_2_0_64) v247 Finset.univ (View.stores_vmem_bits_univ h_S1x1x128x64 rfl) (.inl rfl))
  let v248 : Vec F S1x128x64 .f32 ← Prog.lift (.load a6 (Rect.unit (s := S2x128x256) ![1, 0, 192] S1x128x64.size inb_S2x128x256_S1x128x64_1_0_192).toLoadRect (View.loadsAt_vmem h_S1x128x64))
  let v250 : Vec F S1x128x1x64 .bf16 ← Prog.lift (.load a2 (Rect.unit (s := S2x128x4x64) ![1, 0, 3, 0] S1x128x1x64.size inb_S2x128x4x64_S1x128x1x64_1_0_3_0).toLoadRect (View.loadsAt_vmem h_S1x128x1x64))
  let v258 : Vec F S1x128x1x64 .bf16 ← Prog.lift (.load a3 (Rect.unit (s := S2x128x4x64) ![1, 0, 3, 0] S1x128x1x64.size inb_S2x128x4x64_S1x128x1x64_1_0_3_0).toLoadRect (View.loadsAt_vmem h_S1x128x1x64))
  let _v262 : Vec F S1x1x128x64 .f32 ← Prog.lift (.load a7 (Rect.unit (s := S2x4x128x128) ![1, 3, 0, 0] S1x1x128x64.size inb_S2x4x128x128_S1x1x128x64_1_3_0_0).toLoadRect (View.loadsAt_vmem h_S1x1x128x64))
  Prog.lift (.store a7 (Rect.unit (s := S2x4x128x128) ![1, 3, 0, 0] S1x1x128x64.size inb_S2x4x128x128_S1x1x128x64_1_3_0_0) (k0_pay39 v106 v248 v250 v258) Finset.univ (View.stores_vmem_bits_univ h_S1x1x128x64 rfl) (.inl rfl))
  let _v265 : Vec F S1x1x128x64 .f32 ← Prog.lift (.load a7 (Rect.unit (s := S2x4x128x128) ![1, 3, 0, 64] S1x1x128x64.size inb_S2x4x128x128_S1x1x128x64_1_3_0_64).toLoadRect (View.loadsAt_vmem h_S1x1x128x64))
  Prog.lift (.store a7 (Rect.unit (s := S2x4x128x128) ![1, 3, 0, 64] S1x1x128x64.size inb_S2x4x128x128_S1x1x128x64_1_3_0_64) (k0_pay40 v106 v107 v248 v250) Finset.univ (View.stores_vmem_bits_univ h_S1x1x128x64 rfl) (.inl rfl))

/-- The body up to the last store into the accumulator; what the rest uses is the device's number, as a device and as
    a word. -/
def head : Prog (TpuEff nD τ sig (Elt F) Λ₀ .tc) (Σ' (_ : Dev nD), BitVec 32) := do
  let ⟨d0, v2, v19, v20, c64, v22, v29, v31, c0⟩ : Σ' (d0 : Dev nD) (v2 : BitVec 32) (v19 : IVec S128x128 32) (v20 : IVec S128x128 32) (c64_i32 : BitVec 32) (v22 : IVec S128x128 32) (v29 : IVec S128x128 32) (v31 : BitVec 32), BitVec 32 ← k0_part1 a0 h0 a1 h1 a2 h2 a3 h3 a4 h4 a5 h5 a6 h6 a7 h7 a8 h8 a9 h9 a10 h10 a11 a12 s
  let ⟨v44, v72, v74, v76, v77⟩ : Σ' (v44 : IVec S128x128 32) (v72 : IVec S128x128 1) (v74 : BitVec 32) (v76 : IVec S128x128 32), IVec S128x128 32 ← k0_part2 a0 h0 a1 h1 a2 h2 a3 h3 a4 h4 a5 h5 a6 h6 a7 h7 a8 h8 a9 h9 a10 h10 a11 a12 s v2 v19 v20 c64 v22 v29 v31 c0
  let ⟨v106, v107, v117⟩ : Σ' (v106 : IVec S128x128 1) (v107 : FVec F S128x64 .f32), FVec F S128x128 .f32 ← k0_part3 a0 h0 a1 h1 a2 h2 a3 h3 a4 h4 a5 h5 a6 h6 a7 h7 a8 h8 a9 h9 a10 h10 a11 a12 s v44 v72 v74 v76 v77
  let ⟨v140, v141, v142⟩ : Σ' (v140 : FVec F S128x64 .f32) (v141 : FVec F S128x64 .f32), Vec F S1x1x128x64 .f32 ← k0_part4 a0 h0 a1 h1 a2 h2 a3 h3 a4 h4 a5 h5 a6 h6 a7 h7 a8 h8 a9 h9 a10 h10 a11 a12 s v106 v107 v117
  k0_part5 a0 h0 a1 h1 a2 h2 a3 h3 a4 h4 a5 h5 a6 h6 a7 h7 a8 h8 a9 h9 a10 h10 a11 a12 s v106 v107 v140 v141 v142
  let v195 : FVec F S128x128 .f32 ← k0_part6 a0 h0 a1 h1 a2 h2 a3 h3 a4 h4 a5 h5 a6 h6 a7 h7 a8 h8 a9 h9 a10 h10 a11 a12 s v106 v107
  let ⟨v220, v221⟩ : Σ' (v220 : FVec F S128x64 .f32), FVec F S128x64 .f32 ← k0_part7 a0 h0 a1 h1 a2 h2 a3 h3 a4 h4 a5 h5 a6 h6 a7 h7 a8 h8 a9 h9 a10 h10 a11 a12 s v106 v107 v195
  let v247 : FVec F S1x1x128x64 .f32 ← k0_part8 a0 h0 a1 h1 a2 h2 a3 h3 a4 h4 a5 h5 a6 h6 a7 h7 a8 h8 a9 h9 a10 h10 a11 a12 s v106 v107 v220 v221
  lastStores a2 a3 a6 a7 v106 v107 v247
  pure ⟨d0, v2⟩

/-- Everything after it. -/
def rest (d0 : Dev nD) (v2 : BitVec 32) : Prog (TpuEff nD τ sig (Elt F) Λ₀ .tc) (Σ' (d0 : Dev nD) (v548_r0 : BitVec 32), BitVec 32) := do
  semSignalWord (⟨k0_dev1 d0, k0_dev1_lt d0⟩ : Dev nD) (SemArray.scalar (sig.barrier 0 rfl) : Sems sig S_).sem 1#32
  let v284 : BitVec 32 ← k0_part10 a0 h0 a1 h1 a2 h2 a3 h3 a4 h4 a5 h5 a6 h6 a7 h7 a8 h8 a9 h9 a10 h10 a11 a12 s d0 v2 (SemArray.scalar (sig.barrier 0 rfl)) (Scalar.xori v2 2#32) 1#32
  let v316 : BitVec 32 ← k0_part11 a0 h0 a1 h1 a2 h2 a3 h3 a4 h4 a5 h5 a6 h6 a7 h7 a8 h8 a9 h9 a10 h10 a11 a12 s d0 v2 v284
  k0_part12 a0 h0 a1 h1 a2 h2 a3 h3 a4 h4 a5 h5 a6 h6 a7 h7 a8 h8 a9 h9 a10 h10 a11 a12 s d0 v316
  let v348 : BitVec 32 ← k0_part13 a0 h0 a1 h1 a2 h2 a3 h3 a4 h4 a5 h5 a6 h6 a7 h7 a8 h8 a9 h9 a10 h10 a11 a12 s d0 v2
  let ⟨v380, v382⟩ : Σ' (v380 : BitVec 32), FVec F S2x4x128x128 .bf16 ← k0_part14 a0 h0 a1 h1 a2 h2 a3 h3 a4 h4 a5 h5 a6 h6 a7 h7 a8 h8 a9 h9 a10 h10 a11 a12 s v2 v348
  let ⟨v404, v405⟩ : Σ' (v404 : Vec F S2x4x128x128 .f32), Vec F S1x2x4x128x128 .bf16 ← k0_part15 a0 h0 a1 h1 a2 h2 a3 h3 a4 h4 a5 h5 a6 h6 a7 h7 a8 h8 a9 h9 a10 h10 a11 a12 s d0 v380 v382
  let v412 : BitVec 32 ← k0_part16 a0 h0 a1 h1 a2 h2 a3 h3 a4 h4 a5 h5 a6 h6 a7 h7 a8 h8 a9 h9 a10 h10 a11 a12 s d0 v2 v404 v405
  k0_part17 a0 h0 a1 h1 a2 h2 a3 h3 a4 h4 a5 h5 a6 h6 a7 h7 a8 h8 a9 h9 a10 h10 a11 a12 s v412
  k0_part18 a0 h0 a1 h1 a2 h2 a3 h3 a4 h4 a5 h5 a6 h6 a7 h7 a8 h8 a9 h9 a10 h10 a11 a12 s
  let ⟨v503, v504⟩ : Σ' (v503 : FVec F S128x64 .f32), Vec F S1x128x64 .f32 ← k0_part19 a0 h0 a1 h1 a2 h2 a3 h3 a4 h4 a5 h5 a6 h6 a7 h7 a8 h8 a9 h9 a10 h10 a11 a12 s
  let v530 : FVec F S128x512 .f32 ← k0_part20 a0 h0 a1 h1 a2 h2 a3 h3 a4 h4 a5 h5 a6 h6 a7 h7 a8 h8 a9 h9 a10 h10 a11 a12 s v503 v504
  Prog.lift (.store a5 (Rect.unit (s := S2x128x512) ![1, 0, 0] S1x128x512.size inb_S2x128x512_S1x128x512_1_0_0) (k0_pay63 v530) Finset.univ (View.stores_vmem_bits_univ h_S1x128x512 rfl) (.inl rfl))
  semSignalWord (⟨k0_dev11 d0, k0_dev11_lt d0⟩ : Dev nD) s.sem 1#32
  semSignalWord (⟨k0_dev12 d0, k0_dev12_lt d0⟩ : Dev nD) s.sem 1#32
  semSignalWord (⟨k0_dev13 d0, k0_dev13_lt d0⟩ : Dev nD) s.sem 1#32
  semSignalWord (⟨k0_dev14 d0, k0_dev14_lt d0⟩ : Dev nD) s.sem 1#32
  pure ⟨d0, Scalar.muli (Scalar.xori v2 16#32) 1#32, 0#32⟩

/-- The printed part 21 is the two in sequence. -/
theorem part21_eq : k0_part21 (F := F) a0 h0 a1 h1 a2 h2 a3 h3 a4 h4 a5 h5 a6 h6 a7 h7 a8 h8 a9 h9 a10 h10 a11 a12 s
    = head a0 h0 a1 h1 a2 h2 a3 h3 a4 h4 a5 h5 a6 h6 a7 h7 a8 h8 a9 h9 a10 h10 a11 a12 s >>=
        fun p => rest a0 h0 a1 h1 a2 h2 a3 h3 a4 h4 a5 h5 a6 h6 a7 h7 a8 h8 a9 h9 a10 h10 a11 a12 s p.1 p.2 := by
  rw [k0_part21_eq_skeleton]
  unfold k0_part21_skel head rest lastStores
  simp only [k0_part9_eq_skeleton, k0_part9_skel, bind_assoc, pure_bind]

end Prog

/-- The buffers the body is called on. -/
abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev oM : Memref sig .tc .vmem S2x128x512 .f32 := Memref.whole cc0_stg5_0
abbrev qM : Memref sig .tc .vmem S2x128x256 .f32 := Memref.whole cc0_scratch0
abbrev accM : Memref sig .tc .vmem S2x4x128x128 .f32 := Memref.whole cc0_scratch1
abbrev sndM : Memref sig .tc .vmem S2x4x128x128 .bf16 := Memref.whole cc0_scratch2
abbrev rcvM : Memref sig .tc .vmem S5x2x4x128x128 .bf16 := Memref.whole cc0_scratch3
abbrev ctxM : Memref sig .tc .vmem S2x128x256 .f32 := Memref.whole cc0_scratch4

/-- The first stretch on the kernel's own buffers, and the rest. -/
abbrev headAt : Prog (TpuEff nD τ sig (Elt F) Λ₀ .tc) (Σ' (_ : Dev nD), BitVec 32) :=
  head xM (Memref.isWhole_whole _) wqM (Memref.isWhole_whole _) kM (Memref.isWhole_whole _) vM (Memref.isWhole_whole _) woM (Memref.isWhole_whole _)
    oM (Memref.isWhole_whole _) qM (Memref.isWhole_whole _) accM (Memref.isWhole_whole _) sndM (Memref.isWhole_whole _) rcvM (Memref.isWhole_whole _)
    ctxM (Memref.isWhole_whole _) cc0_scratch5 cc0_scratch6 cc0_scoped0

/-- What the first stretch leaves in the accumulator, from the inputs' contents, with the proof that it does: it returns
    the device's number, and the queries' buffer ends at something. -/
noncomputable def headRun (c : Dev nD) (f0 : Bf (F := F) c xM) (f1 : Bf (F := F) c wqM) (f2 : Bf (F := F) c kM) (f3 : Bf (F := F) c vM) :
    { W : Bf (F := F) c accM × BitVec 32 //
      ∀ (f6 : Bf (F := F) c qM) (f7 : Bf (F := F) c accM) (E : Set ℕ) (Q : (Σ' (_ : Dev nD), BitVec 32) → sProp 𝕄),
        iprop(pt c xM f0 ∗ pt c wqM f1 ∗ pt c kM f2 ∗ pt c vM f3 ∗ pt c qM f6 ∗ pt c accM f7
          ∗ (iprop(pt c xM f0 ∗ pt c wqM f1 ∗ pt c kM f2 ∗ pt c vM f3 ∗ (∃ f, pt c qM f) ∗ pt c accM W.1) -∗ Q ⟨c, W.2⟩))
        ⊢ wp frame (wpE (defs₀ (F := F)) Variants.none c none) E headAt Q } := by
  refine ⟨⟨?_, ?_⟩, fun f6 f7 E Q => ?run⟩
  case run =>
    iintro ⟨H0, H1, H2, H3, H6, H7, Hk⟩
    unfold headAt head lastStores
    sl_exec_parts!
    sl_step
    iapply Hk
    isplitl [H0]; · iexact H0
    isplitl [H1]; · iexact H1
    isplitl [H2]; · iexact H2
    isplitl [H3]; · iexact H3
    isplitl [H6]; · iexists _; iexact H6
    iexact H7

end Cert.KernelIdealRun

end
-- ==== Proof.KernelIdealRun.Stages.lean ====
/-
  The rest of the kernel body after its first stretch, in the order it runs: the entry handshake (`bars`), five exchanges
  (`stage`, one program at five targets and slots), the normalisation and the output product (`fin`), and the exit
  handshake (`exits`).
-/
module

public import proofs.«01_k».proof.Proof.KernelIdealRun.Head

@[expose] public section

set_option maxRecDepth 65536

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The rectangle of the receive buffer at offset `o`, and the slot as the block it holds. -/
abbrev rowR (o : Fin 5 → ℕ) (io : ∀ a, o a + S1x2x4x128x128.size a ≤ S5x2x4x128x128.size a) : Rect S5x2x4x128x128 :=
  Rect.unit (s := S5x2x4x128x128) o S1x2x4x128x128.size io
abbrev slotM (a9 : Memref sig .tc .vmem S5x2x4x128x128 .bf16) (o : Fin 5 → ℕ) (io : ∀ a, o a + S1x2x4x128x128.size a ≤ S5x2x4x128x128.size a) :
    Memref sig .tc .vmem S2x4x128x128 .bf16 :=
  (a9.slice (rowR o io) (fun _ => rfl)).squeeze S2x4x128x128 squeezes_S1x2x4x128x128_S2x4x128x128

/-- One semaphore of an array of five. -/
abbrev semAt (a : DmaSems sig S5) (o : Fin 1 → ℕ) (io : ∀ i, o i + S1.size i ≤ S5.size i) : DmaSems sig S_ :=
  (a.slice (Rect.unit (s := S5) o S1.size io)).squeeze S_ squeezes_S1_S_

/-- The entry handshake: one unit to each of the five neighbours, and a wait for five. -/
def bars (b : Sems sig S_) (d0 : Dev nD) : Prog (TpuEff nD τ sig (Elt F) Λ₀ .tc) PUnit := do
  semSignalWord (⟨k0_dev1 d0, k0_dev1_lt d0⟩ : Dev nD) b.sem 1#32
  semSignalWord (⟨k0_dev2 d0, k0_dev2_lt d0⟩ : Dev nD) b.sem 1#32
  semSignalWord (⟨k0_dev3 d0, k0_dev3_lt d0⟩ : Dev nD) b.sem 1#32
  semSignalWord (⟨k0_dev4 d0, k0_dev4_lt d0⟩ : Dev nD) b.sem 1#32
  semSignalWord (⟨k0_dev5 d0, k0_dev5_lt d0⟩ : Dev nD) b.sem 1#32
  semWaitWord b.sem 5#32

/-- The exit handshake, likewise. -/
def exits (b : Sems sig S_) (d0 : Dev nD) : Prog (TpuEff nD τ sig (Elt F) Λ₀ .tc) PUnit := do
  semSignalWord (⟨k0_dev11 d0, k0_dev11_lt d0⟩ : Dev nD) b.sem 1#32
  semSignalWord (⟨k0_dev12 d0, k0_dev12_lt d0⟩ : Dev nD) b.sem 1#32
  semSignalWord (⟨k0_dev13 d0, k0_dev13_lt d0⟩ : Dev nD) b.sem 1#32
  semSignalWord (⟨k0_dev14 d0, k0_dev14_lt d0⟩ : Dev nD) b.sem 1#32
  semSignalWord (⟨k0_dev15 d0, k0_dev15_lt d0⟩ : Dev nD) b.sem 1#32
  semWaitWord b.sem 5#32

/-- The whole accumulator's rectangle. -/
abbrev accR : Rect S2x4x128x128 := Rect.unit (s := S2x4x128x128) ![0, 0, 0, 0] S2x4x128x128.size inb_S2x4x128x128_S2x4x128x128_0_0_0_0

/-- One exchange: the accumulator rounded into the send buffer, sent to device `n`'s slot at `o`, the send and the
    arrival waited for, and the slot's block added to the accumulator. -/
def stage (a7 : Memref sig .tc .vmem S2x4x128x128 .f32) (a8 : Memref sig .tc .vmem S2x4x128x128 .bf16) (h8 : a8.IsWhole)
    (a9 : Memref sig .tc .vmem S5x2x4x128x128 .bf16) (h9 : a9.IsWhole) (n : Dev nD) (o : Fin 5 → ℕ)
    (io : ∀ a, o a + S1x2x4x128x128.size a ≤ S5x2x4x128x128.size a) (hw : (rowR o io).WholeWords (EltTy.packing .bf16))
    (sS sR : DmaSem sig) : Prog (TpuEff nD τ sig (Elt F) Λ₀ .tc) PUnit := do
  let v : Vec F S2x4x128x128 .f32 ← Prog.lift (.load a7 accR.toLoadRect (View.loadsAt_vmem h_S2x4x128x128))
  let _ : Vec F S2x4x128x128 .bf16 ← Prog.lift (.load a8 accR.toLoadRect (View.loadsAt_vmem h_S2x4x128x128))
  Prog.lift (.store a8 accR (k0_pay41 v) Finset.univ (View.stores_vmem h_S2x4x128x128 (h8.storeExact_slice rfl _ packedbf16_S2x4x128x128_S2x4x128x128_0_0_0_0) (fun _ => rfl)) (.inl rfl))
  Prog.lift (.enqueueDma a8 (.remote (Dev.tc n) (slotM a9 o io) (.dma sS)) (.dma sR) h8.wordExact ((h9.wordExact_slice rfl _ hw).reshape _ _) ⟨⟨rfl, Or.inl rfl⟩, trivial⟩)
  Prog.lift (.waitDma2 sS (slotM a9 o io) a8 ((h9.wordExact_slice rfl _ hw).reshape _ _) h8.wordExact)
  Prog.lift (.waitDma2 sR a8 (slotM a9 o io) h8.wordExact ((h9.wordExact_slice rfl _ hw).reshape _ _))
  let u : Vec F S2x4x128x128 .f32 ← Prog.lift (.load a7 accR.toLoadRect (View.loadsAt_vmem h_S2x4x128x128))
  let w : Vec F S1x2x4x128x128 .bf16 ← Prog.lift (.load a9 (rowR o io).toLoadRect (View.loadsAt_vmem h_S1x2x4x128x128))
  let _ : Vec F S2x4x128x128 .f32 ← Prog.lift (.load a7 accR.toLoadRect (View.loadsAt_vmem h_S2x4x128x128))
  Prog.lift (.store a7 accR (k0_pay42 u w) Finset.univ (View.stores_vmem_bits_univ h_S2x4x128x128 rfl) (.inl rfl))

section Prog

variable (a0 : Memref sig .tc .vmem S2x128x512 .bf16) (h0 : a0.IsWhole) (a1 : Memref sig .tc .vmem S512x256 .bf16) (h1 : a1.IsWhole)
  (a2 : Memref sig .tc .vmem S2x128x4x64 .bf16) (h2 : a2.IsWhole) (a3 : Memref sig .tc .vmem S2x128x4x64 .bf16) (h3 : a3.IsWhole)
  (a4 : Memref sig .tc .vmem S256x512 .bf16) (h4 : a4.IsWhole) (a5 : Memref sig .tc .vmem S2x128x512 .f32) (h5 : a5.IsWhole)
  (a6 : Memref sig .tc .vmem S2x128x256 .f32) (h6 : a6.IsWhole) (a7 : Memref sig .tc .vmem S2x4x128x128 .f32) (h7 : a7.IsWhole)
  (a8 : Memref sig .tc .vmem S2x4x128x128 .bf16) (h8 : a8.IsWhole) (a9 : Memref sig .tc .vmem S5x2x4x128x128 .bf16) (h9 : a9.IsWhole)
  (a10 : Memref sig .tc .vmem S2x128x256 .f32) (h10 : a10.IsWhole) (a11 : DmaSems sig S5) (a12 : DmaSems sig S5) (s : Sems sig S_)

/-- The five exchanges, in order. -/
def stages (d0 : Dev nD) : Prog (TpuEff nD τ sig (Elt F) Λ₀ .tc) PUnit := do
  stage a7 a8 h8 a9 h9 (⟨k0_dev6 d0, k0_dev6_lt d0⟩ : Dev nD) ![0, 0, 0, 0, 0] inb_S5x2x4x128x128_S1x2x4x128x128_0_0_0_0_0 wordsbf16_S5x2x4x128x128_S1x2x4x128x128_0_0_0_0_0 (semAt a11 ![0] inb_S5_S1_0).sem (semAt a12 ![0] inb_S5_S1_0).sem
  stage a7 a8 h8 a9 h9 (⟨k0_dev7 d0, k0_dev7_lt d0⟩ : Dev nD) ![1, 0, 0, 0, 0] inb_S5x2x4x128x128_S1x2x4x128x128_1_0_0_0_0 wordsbf16_S5x2x4x128x128_S1x2x4x128x128_1_0_0_0_0 (semAt a11 ![1] inb_S5_S1_1).sem (semAt a12 ![1] inb_S5_S1_1).sem
  stage a7 a8 h8 a9 h9 (⟨k0_dev8 d0, k0_dev8_lt d0⟩ : Dev nD) ![2, 0, 0, 0, 0] inb_S5x2x4x128x128_S1x2x4x128x128_2_0_0_0_0 wordsbf16_S5x2x4x128x128_S1x2x4x128x128_2_0_0_0_0 (semAt a11 ![2] inb_S5_S1_2).sem (semAt a12 ![2] inb_S5_S1_2).sem
  stage a7 a8 h8 a9 h9 (⟨k0_dev9 d0, k0_dev9_lt d0⟩ : Dev nD) ![3, 0, 0, 0, 0] inb_S5x2x4x128x128_S1x2x4x128x128_3_0_0_0_0 wordsbf16_S5x2x4x128x128_S1x2x4x128x128_3_0_0_0_0 (semAt a11 ![3] inb_S5_S1_3).sem (semAt a12 ![3] inb_S5_S1_3).sem
  stage a7 a8 h8 a9 h9 (⟨k0_dev10 d0, k0_dev10_lt d0⟩ : Dev nD) ![4, 0, 0, 0, 0] inb_S5x2x4x128x128_S1x2x4x128x128_4_0_0_0_0 wordsbf16_S5x2x4x128x128_S1x2x4x128x128_4_0_0_0_0 (semAt a11 ![4] inb_S5_S1_4).sem (semAt a12 ![4] inb_S5_S1_4).sem

/-- The normalisation and the output product, up to the last store. -/
def fin : Prog (TpuEff nD τ sig (Elt F) Λ₀ .tc) PUnit := do
  let v444 : Vec F S1x1x128x64 .f32 ← Prog.lift (.load a7 (Rect.unit (s := S2x4x128x128) ![0, 0, 0, 0] S1x1x128x64.size inb_S2x4x128x128_S1x1x128x64_0_0_0_0).toLoadRect (View.loadsAt_vmem h_S1x1x128x64))
  let v446 : Vec F S1x1x128x1 .f32 ← Prog.lift (.load a7 (Rect.unit (s := S2x4x128x128) ![0, 0, 0, 64] S1x1x128x1.size inb_S2x4x128x128_S1x1x128x1_0_0_0_64).toLoadRect (View.loadsAt_vmem h_S1x1x128x1))
  let _ : Vec F S1x128x64 .f32 ← Prog.lift (.load a10 (Rect.unit (s := S2x128x256) ![0, 0, 0] S1x128x64.size inb_S2x128x256_S1x128x64_0_0_0).toLoadRect (View.loadsAt_vmem h_S1x128x64))
  Prog.lift (.store a10 (Rect.unit (s := S2x128x256) ![0, 0, 0] S1x128x64.size inb_S2x128x256_S1x128x64_0_0_0) (k0_pay52 v444 v446) Finset.univ (View.stores_vmem_bits_univ h_S1x128x64 rfl) (.inl rfl))
  k0_part18 a0 h0 a1 h1 a2 h2 a3 h3 a4 h4 a5 h5 a6 h6 a7 h7 a8 h8 a9 h9 a10 h10 a11 a12 s
  let ⟨v503, v504⟩ : Σ' (v503 : FVec F S128x64 .f32), Vec F S1x128x64 .f32 ← k0_part19 a0 h0 a1 h1 a2 h2 a3 h3 a4 h4 a5 h5 a6 h6 a7 h7 a8 h8 a9 h9 a10 h10 a11 a12 s
  let v530 : FVec F S128x512 .f32 ← k0_part20 a0 h0 a1 h1 a2 h2 a3 h3 a4 h4 a5 h5 a6 h6 a7 h7 a8 h8 a9 h9 a10 h10 a11 a12 s v503 v504
  Prog.lift (.store a5 (Rect.unit (s := S2x128x512) ![1, 0, 0] S1x128x512.size inb_S2x128x512_S1x128x512_1_0_0) (k0_pay63 v530) Finset.univ (View.stores_vmem_bits_univ h_S1x128x512 rfl) (.inl rfl))

/-- The roundings and the additions of the five exchanges are the first exchange's. -/
theorem pay43_eq : (k0_pay43 (F := F)) = k0_pay41 := rfl
theorem pay45_eq : (k0_pay45 (F := F)) = k0_pay41 := rfl
theorem pay48_eq (v : Vec F S2x4x128x128 .f32) : k0_pay48 (k0_pay47 v) = k0_pay41 v := rfl
theorem pay50_eq : (k0_pay50 (F := F)) = k0_pay41 := rfl
theorem pay44_eq : (k0_pay44 (F := F)) = k0_pay42 := rfl
theorem pay46_eq : (k0_pay46 (F := F)) = k0_pay42 := rfl
theorem pay49_eq : (k0_pay49 (F := F)) = k0_pay42 := rfl
theorem pay51_eq : (k0_pay51 (F := F)) = k0_pay42 := rfl

/-- The kernel body in its five stretches. -/
theorem body_eq : cc0_body (F := F) a0 h0 a1 h1 a2 h2 a3 h3 a4 h4 a5 h5 a6 h6 a7 h7 a8 h8 a9 h9 a10 h10 a11 a12 s
    = head a0 h0 a1 h1 a2 h2 a3 h3 a4 h4 a5 h5 a6 h6 a7 h7 a8 h8 a9 h9 a10 h10 a11 a12 s >>= fun p => bars (SemArray.scalar (sig.barrier 0 rfl)) p.1 >>= fun _ => stages a7 a8 h8 a9 h9 a11 a12 p.1 >>= fun _ =>
        fin a0 h0 a1 h1 a2 h2 a3 h3 a4 h4 a5 h5 a6 h6 a7 h7 a8 h8 a9 h9 a10 h10 a11 a12 s >>= fun _ => exits s p.1 := by
  rw [cc0_body_eq_skeleton]
  unfold cc0_body_skel
  rw [part21_eq]
  unfold rest fin stages bars exits stage
  simp only [k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, pay43_eq, pay44_eq, pay45_eq, pay46_eq, pay48_eq, pay49_eq, pay50_eq, pay51_eq, bind_assoc, pure_bind, bind_pure]
  rfl

end Prog

/-- The last stretch on the kernel's own buffers. -/
abbrev finAt : Prog (TpuEff nD τ sig (Elt F) Λ₀ .tc) PUnit :=
  fin xM (Memref.isWhole_whole _) wqM (Memref.isWhole_whole _) kM (Memref.isWhole_whole _) vM (Memref.isWhole_whole _) woM (Memref.isWhole_whole _)
    oM (Memref.isWhole_whole _) qM (Memref.isWhole_whole _) accM (Memref.isWhole_whole _) sndM (Memref.isWhole_whole _) rcvM (Memref.isWhole_whole _)
    ctxM (Memref.isWhole_whole _) cc0_scratch5 cc0_scratch6 cc0_scoped0

/-- What the last stretch leaves in the output's buffer, from the accumulator's and the output weights' contents, with
    the proof that it does. -/
noncomputable def finRun (c : Dev nD) (f7 : Bf (F := F) c accM) (f4 : Bf (F := F) c woM) :
    { W : Bf (F := F) c oM //
      ∀ (f10 : Bf (F := F) c ctxM) (f5 : Bf (F := F) c oM) (E : Set ℕ) (Q : PUnit → sProp 𝕄),
        iprop(pt c accM f7 ∗ pt c woM f4 ∗ pt c ctxM f10 ∗ pt c oM f5
          ∗ (iprop(pt c accM f7 ∗ pt c woM f4 ∗ (∃ f, pt c ctxM f) ∗ pt c oM W) -∗ Q ⟨⟩))
        ⊢ wp frame (wpE (defs₀ (F := F)) Variants.none c none) E finAt Q } := by
  refine ⟨?_, fun f10 f5 E Q => ?run⟩
  case run =>
    iintro ⟨H7, H4, H10, H5, Hk⟩
    unfold finAt fin
    sl_exec_parts!
    sl_step
    iapply Hk
    isplitl [H7]; · iexact H7
    isplitl [H4]; · iexact H4
    isplitl [H10]; · iexists _; iexact H10
    iexact H5

end Cert.KernelIdealRun

end
-- ==== Proof.KernelIdealRun.Protocol.lean ====
/-
  The exchange between the devices as a one-round schedule of duties.

  Device `c` talks to its five neighbours `nb k c`, the device whose number differs in bit `k`. It has twelve semaphore
  cells: the barrier's, the exit handshake's, and for every bit one for its own transfer's departure and one for the
  neighbour's arrival. A barrier cell has five duties, one per neighbour, each handing over the slot of the neighbour's
  receive buffer the transfer of that bit will write; an arrival cell's duty hands the slot back holding the neighbour's
  rounded accumulator.
-/
module

public import proofs.«01_k».proof.Proof.KernelIdealRun.Stages
public import proofs.«01_k».proof.Proof.Gen.KernelIdeal.Launch
public import Idealize.ShloMosaic.Lib.Pipeline.Launch
public import Idealize.ShloMosaic.Lib.Ring

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The neighbours -/

set_option backward.proofsInPublic true in
/-- The device whose number differs from `c`'s in bit `k`. -/
def nb (k : Fin 5) (c : Dev nD) : Dev nD := ⟨(c.val ^^^ 2 ^ k.val) % 32, Nat.mod_lt _ (by decide)⟩

theorem nb_nb (k : Fin 5) (c : Dev nD) : nb k (nb k c) = c := by revert k c; decide

/-- The flip of bit `k`, as a permutation of the devices. -/
def flip (k : Fin 5) : Dev nD ≃ Dev nD := ⟨nb k, nb k, nb_nb k, nb_nb k⟩

/-- The three chains of device numbers the body computes, one target per bit. -/
theorem dev1_eq (c : Dev nD) : (⟨k0_dev1 c, k0_dev1_lt c⟩ : Dev nD) = nb 0 c := by revert c; decide
theorem dev2_eq (c : Dev nD) : (⟨k0_dev2 c, k0_dev2_lt c⟩ : Dev nD) = nb 1 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = nb 3 c := by revert c; decide
theorem dev5_eq (c : Dev nD) : (⟨k0_dev5 c, k0_dev5_lt c⟩ : Dev nD) = nb 4 c := by revert c; decide
theorem dev6_eq (c : Dev nD) : (⟨k0_dev6 c, k0_dev6_lt c⟩ : Dev nD) = nb 0 c := by revert c; decide
theorem dev7_eq (c : Dev nD) : (⟨k0_dev7 c, k0_dev7_lt c⟩ : Dev nD) = nb 1 c := by revert c; decide
theorem dev8_eq (c : Dev nD) : (⟨k0_dev8 c, k0_dev8_lt c⟩ : Dev nD) = nb 2 c := by revert c; decide
theorem dev9_eq (c : Dev nD) : (⟨k0_dev9 c, k0_dev9_lt c⟩ : Dev nD) = nb 3 c := by revert c; decide
theorem dev10_eq (c : Dev nD) : (⟨k0_dev10 c, k0_dev10_lt c⟩ : Dev nD) = nb 4 c := by revert c; decide
theorem dev11_eq (c : Dev nD) : (⟨k0_dev11 c, k0_dev11_lt c⟩ : Dev nD) = nb 0 c := by revert c; decide
theorem dev12_eq (c : Dev nD) : (⟨k0_dev12 c, k0_dev12_lt c⟩ : Dev nD) = nb 1 c := by revert c; decide
theorem dev13_eq (c : Dev nD) : (⟨k0_dev13 c, k0_dev13_lt c⟩ : Dev nD) = nb 2 c := by revert c; decide
theorem dev14_eq (c : Dev nD) : (⟨k0_dev14 c, k0_dev14_lt c⟩ : Dev nD) = nb 3 c := by revert c; decide
theorem dev15_eq (c : Dev nD) : (⟨k0_dev15 c, k0_dev15_lt c⟩ : Dev nD) = nb 4 c := by revert c; decide

/-! ## The cells -/

/-- The kernel's own cells: the exit handshake's, the departures', the arrivals'; all twelve with the barrier's. -/
abbrev OwnIx : Type := Unit ⊕ (Fin 5 ⊕ Fin 5)
abbrev Cl : Type := Unit ⊕ OwnIx
abbrev clB : Cl := .inl ()
abbrev clE : Cl := .inr (.inl ())
abbrev clS (k : Fin 5) : Cl := .inr (.inr (.inl k))
abbrev clR (k : Fin 5) : Cl := .inr (.inr (.inr k))

abbrev barS : Sem sig := (SemArray.scalar (sig.barrier 0 rfl) : Sems sig S_).sem
abbrev exitS : Sem sig := (cc0_scoped0 : Sems sig S_).sem
set_option backward.proofsInPublic true in
def sendS (k : Fin 5) : DmaSem sig := ⟨6 + k.val, lt_of_lt_of_le (Nat.add_lt_add_left k.isLt 6) (by decide)⟩
set_option backward.proofsInPublic true in
def recvS (k : Fin 5) : DmaSem sig := ⟨11 + k.val, lt_of_lt_of_le (Nat.add_lt_add_left k.isLt 11) (by decide)⟩

abbrev osem : OwnIx → SemLoc sig
  | .inl _ => .reg exitS
  | .inr (.inl k) => .dma (sendS k)
  | .inr (.inr k) => .dma (recvS k)
abbrev csem : Cl → SemLoc sig
  | .inl _ => .reg barS
  | .inr i => osem i
abbrev kcell (c : Dev nD) (i : Cl) : GSem nD τ sig := ((c : Thread nD τ), csem i)

/-- Which of the twelve a semaphore is. -/
def dec : SemLoc sig → Option Cl
  | .reg s => if s.val = 0 then some clB else if s.val = 1 then some clE else none
  | .dma d => if d.val < 6 then none else if h : d.val - 6 < 5 then some (clS ⟨d.val - 6, h⟩) else if h : d.val - 11 < 5 then some (clR ⟨d.val - 11, h⟩) else none

theorem dec_csem (i : Cl) : dec (csem i) = some i := by revert i; decide
theorem csem_injective : Function.Injective csem := fun i j h => Option.some.inj (by rw [← dec_csem i, h, dec_csem j])

/-! ## The slots of the receive buffer -/

abbrev off (k : Fin 5) : Fin 5 → ℕ := ![k.val, 0, 0, 0, 0]
theorem off_io (k : Fin 5) : ∀ a, off k a + S1x2x4x128x128.size a ≤ S5x2x4x128x128.size a := by revert k; decide
theorem off_words (k : Fin 5) : (rowR (off k) (off_io k)).WholeWords (EltTy.packing .bf16) := by
  fin_cases k
  · exact wordsbf16_S5x2x4x128x128_S1x2x4x128x128_0_0_0_0_0
  · exact wordsbf16_S5x2x4x128x128_S1x2x4x128x128_1_0_0_0_0
  · exact wordsbf16_S5x2x4x128x128_S1x2x4x128x128_2_0_0_0_0
  · exact wordsbf16_S5x2x4x128x128_S1x2x4x128x128_3_0_0_0_0
  · exact wordsbf16_S5x2x4x128x128_S1x2x4x128x128_4_0_0_0_0

/-- Slot `k` of the receive buffer. -/
abbrev slot (k : Fin 5) : Memref sig .tc .vmem S2x4x128x128 .bf16 := slotM rcvM (off k) (off_io k)

theorem slot_set (k : Fin 5) : (slot k).view.set = (rowR (off k) (off_io k)).set := by
  show (((rcvM : Memref sig .tc .vmem S5x2x4x128x128 .bf16).view.slice (rowR (off k) (off_io k))).reshape S2x4x128x128 _).set = _
  rw [View.set_reshape]
  exact View.set_slice_whole cc0_scratch3 (rowR (off k) (off_io k))

theorem mem_slot (k : Fin 5) (i : S5x2x4x128x128.Idx) : i ∈ (rowR (off k) (off_io k)).set ↔ (i 0).val = k.val := by
  rw [Rect.mem_set_unit]
  constructor
  · intro h
    have h0 := h 0
    have h1 : (off k) 0 = k.val := rfl
    have h2 : S1x2x4x128x128.size 0 = 1 := rfl
    omega
  · intro h a
    have hi := (i a).isLt
    fin_cases a
    · show k.val ≤ (i 0).val ∧ (i 0).val < k.val + 1
      omega
    · exact ⟨Nat.zero_le _, by simpa using hi⟩
    · exact ⟨Nat.zero_le _, by simpa using hi⟩
    · exact ⟨Nat.zero_le _, by simpa using hi⟩
    · exact ⟨Nat.zero_le _, by simpa using hi⟩

/-- A slot's elements, as elements of the receive buffer. -/
def slotSet (k : Fin 5) : Finset (cc0_scratch3 : Ref sig .tc).ty.Idx := (rowR (off k) (off_io k)).set

theorem slot_disjoint (k k' : Fin 5) (h : k ≠ k') : Disjoint (slotSet k) (slotSet k') := by
  unfold slotSet
  rw [Finset.disjoint_left]
  intro i hi hi'
  exact h (Fin.ext (((mem_slot k i).mp hi).symm.trans ((mem_slot k' i).mp hi')))

theorem slot_cover : (Finset.univ : Finset (Fin 5)).biUnion slotSet = Finset.univ := by
  refine Finset.eq_univ_of_forall fun i => ?_
  refine Finset.mem_biUnion.mpr ⟨⟨(i 0).val, (i 0).isLt⟩, Finset.mem_univ _, ?_⟩
  exact (mem_slot _ i).mpr rfl

/-- A transfer's credit: the same at either end and at every slot. -/
abbrev N : ℕ := (sndM : Memref sig .tc .vmem S2x4x128x128 .bf16).view.dmaCredit
theorem N_pos : 0 < N := View.dmaCredit_pos _ (by decide)
theorem slot_credit (k : Fin 5) : (slot k).view.dmaCredit = N := rfl

/-! ## The contents -/

/-- The inputs on device `c`, as the pipeline stages them. -/
def xin (c : Dev nD) : (cc0_stg0_0 : Ref sig .tc).ty.Contents (Elt F) := (win0_0.blk (0 : Fin 1)).view.read (Elt F) ((s₀ m ρ).mem ((c : Thread nD τ).loc main_arg0))
def wqin (c : Dev nD) : (cc0_stg1_0 : Ref sig .tc).ty.Contents (Elt F) := (win0_1.blk (0 : Fin 1)).view.read (Elt F) ((s₀ m ρ).mem ((c : Thread nD τ).loc main_arg1))
def kin (c : Dev nD) : (cc0_stg2_0 : Ref sig .tc).ty.Contents (Elt F) := (win0_2.blk (0 : Fin 1)).view.read (Elt F) ((s₀ m ρ).mem ((c : Thread nD τ).loc main_arg2))
def vin (c : Dev nD) : (cc0_stg3_0 : Ref sig .tc).ty.Contents (Elt F) := (win0_3.blk (0 : Fin 1)).view.read (Elt F) ((s₀ m ρ).mem ((c : Thread nD τ).loc main_arg3))
def woin (c : Dev nD) : (cc0_stg4_0 : Ref sig .tc).ty.Contents (Elt F) := (win0_4.blk (0 : Fin 1)).view.read (Elt F) ((s₀ m ρ).mem ((c : Thread nD τ).loc main_arg4))

/-- An accumulator plus a neighbour's rounded one. -/
def plus (a : Vec F S2x4x128x128 .f32) (b : FVec F S2x4x128x128 .bf16) : FVec F S2x4x128x128 .f32 :=
  shapeCast S2x4x128x128 (addf a (extf .f32 b bitsLt_bf16_f32)) shapeCasts_S2x4x128x128_S2x4x128x128

/-- The accumulator of device `c` after `k` exchanges; `bit k` is the bit exchange `k` flips. -/
def acc : (k : ℕ) → (c : Dev nD) → (cc0_scratch1 : Ref sig .tc).ty.Contents (Elt F)
  | 0, c => (headRun c (xin m ρ c) (wqin m ρ c) (kin m ρ c) (vin m ρ c)).1.1
  | k + 1, c => plus (acc k c) (k0_pay41 (acc k (nb (Fin.ofNat 5 k) c)))

/-- The result of device `c`. -/
def outAt (c : Dev nD) : (cc0_stg5_0 : Ref sig .tc).ty.Contents (Elt F) := (finRun c (acc m ρ 5 c) (woin m ρ c)).1
theorem outAt_eq (c : Dev nD) : outAt m ρ c = (finRun c (acc m ρ 5 c) (woin m ρ c)).1 := rfl
attribute [irreducible] outAt

def slotPts (k : Fin 5) (c : Dev nD) (f : Buf (Elt F) ((slot k).view.loc (c : Thread nD τ))) : sProp 𝕄 :=
  (slot k).view.loc (c : Thread nD τ) ↦[(slot k).view.set]{fullShare} f
def sndPts (c : Dev nD) (f : Buf (Elt F) ((sndM : Memref sig .tc .vmem S2x4x128x128 .bf16).view.loc (c : Thread nD τ))) : sProp 𝕄 :=
  (sndM : Memref sig .tc .vmem S2x4x128x128 .bf16).view.loc (c : Thread nD τ) ↦[(sndM : Memref sig .tc .vmem S2x4x128x128 .bf16).view.set]{fullShare} f

omit [FloatOps F] in
instance slotPts_storable (k : Fin 5) (c : Dev nD) (f) : BI.Storable (upEmb : UEmb _ 𝕄) (slotPts (F := F) k c f) := by unfold slotPts; infer_instance
omit [FloatOps F] in
instance sndPts_storable (c : Dev nD) (f) : BI.Storable (upEmb : UEmb _ 𝕄) (sndPts (F := F) c f) := by unfold sndPts; infer_instance

omit [FloatOps F] in
theorem sndPts_eq (c : Dev nD) (f : Bf (F := F) c sndM) : sndPts c f = pt c sndM f := by
  unfold sndPts; rw [View.set_whole]

omit [FloatOps F] in
theorem slotPts_eq (k : Fin 5) (c : Dev nD) (f : Bf (F := F) c rcvM) :
    slotPts k c f = (((c : Thread nD τ).loc cc0_scratch3) ↦[slotSet k]{fullShare} f : sProp 𝕄) := by
  unfold slotPts slotSet; rw [slot_set]

omit [FloatOps F] in
theorem rcv_whole (c : Dev nD) (f : Buf (Elt F) ((c : Thread nD τ).loc cc0_scratch3)) :
    (((c : Thread nD τ).loc cc0_scratch3) ↦{fullShare} f : sProp 𝕄)
      = bigSep Finset.univ fun k : Fin 5 => (((c : Thread nD τ).loc cc0_scratch3) ↦[slotSet k]{fullShare} f : sProp 𝕄) :=
  Ring.pointsTo_blocks (ℓ := (c : Thread nD τ).loc cc0_scratch3) slotSet slot_disjoint slot_cover f

omit [FloatOps F] in
/-- The receive buffer held whole is held slot by slot, and back. -/
theorem rcv_split (c : Dev nD) (f : Buf (Elt F) ((c : Thread nD τ).loc cc0_scratch3)) :
    (((c : Thread nD τ).loc cc0_scratch3) ↦{fullShare} f : sProp 𝕄) = bigSep Finset.univ fun k : Fin 5 => slotPts k c f := by
  rw [rcv_whole]
  exact bigSep_congr fun k _ => (slotPts_eq k c f).symm
omit [FloatOps F] in
theorem rcv_join (c : Dev nD) (f₀ : Buf (Elt F) ((c : Thread nD τ).loc cc0_scratch3)) :
    bigSep Finset.univ (fun k : Fin 5 => iprop(∃ f, slotPts k c f)) ⊢ (iprop(∃ g, ((c : Thread nD τ).loc cc0_scratch3) ↦{fullShare} g) : sProp 𝕄) := by
  have h : (fun k : Fin 5 => (iprop(∃ f, slotPts k c f) : sProp 𝕄))
      = fun k : Fin 5 => (iprop(∃ f : Buf (Elt F) ((c : Thread nD τ).loc cc0_scratch3), ((c : Thread nD τ).loc cc0_scratch3) ↦[slotSet k]{fullShare} f) : sProp 𝕄) :=
    funext fun k => congrArg BIBase.exists (funext fun f => slotPts_eq k c f)
  rw [h]
  exact Ring.pointsTo_blocks_join_exists (ℓ := (c : Thread nD τ).loc cc0_scratch3) slotSet slot_disjoint slot_cover f₀

/-! ## The schedule -/

def barPay (k : Fin 5) (c : Dev nD) : sProp 𝕄 := iprop(∃ f, slotPts k (nb k c) f)
def recvPay (k : Fin 5) (c : Dev nD) : sProp 𝕄 :=
  iprop(∃ f, ⌜(slot k).view.read (Elt F) f = k0_pay41 (acc m ρ k.val (nb k c))⌝ ∗ slotPts k c f)
def sendPay (c : Dev nD) : sProp 𝕄 := iprop(∃ f, sndPts c f)

omit [FloatOps F] in
instance barPay_storable (k : Fin 5) (c : Dev nD) : BI.Storable (upEmb : UEmb _ 𝕄) (barPay (F := F) k c) := by unfold barPay; infer_instance
instance recvPay_storable (k : Fin 5) (c : Dev nD) : BI.Storable (upEmb : UEmb _ 𝕄) (recvPay m ρ k c) := by unfold recvPay; infer_instance
omit [FloatOps F] in
instance sendPay_storable (c : Dev nD) : BI.Storable (upEmb : UEmb _ 𝕄) (sendPay (F := F) c) := by unfold sendPay; infer_instance

/-- Per cell: the duties of round 0, the amount of one, what one hands over, and the level. -/
def dutiesOf : Cl → Finset (Fin 5)
  | .inl _ => Finset.univ
  | .inr (.inl _) => Finset.univ
  | .inr (.inr _) => {0}
def amtOf : Cl → ℕ
  | .inl _ => 1
  | .inr (.inl _) => 1
  | .inr (.inr _) => N
def payOf (c : Dev nD) : Cl → Fin 5 → sProp 𝕄
  | .inl _, k => barPay k c
  | .inr (.inl _), _ => iprop(emp)
  | .inr (.inr (.inl _)), _ => sendPay c
  | .inr (.inr (.inr k)), _ => recvPay m ρ k c
def lvOf : Cl → ℕ
  | .inl _ => 1
  | .inr (.inl _) => 7
  | .inr (.inr (.inl _)) => 0
  | .inr (.inr (.inr k)) => 2 + k.val

theorem amtOf_pos (i : Cl) : 0 < amtOf i := by
  rcases i with _ | _ | _
  · exact Nat.one_pos
  · exact Nat.one_pos
  · exact N_pos

/-- The schedule: one round, round 0, on the twelve cells of every device. -/
def ringRd : Rounds.Schedule (GSem nD τ sig) (Fin 5) 𝕄 where
  duties g r := if r = 0 ∧ g.1.2 = .tc then (dec g.2).elim ∅ dutiesOf else ∅
  unitless _ := False
  amount g _ _ := (dec g.2).elim 1 amtOf
  payload g _ d := (dec g.2).elim iprop(emp) fun i => payOf m ρ g.1.1 i d
  amount_pos g _ _ _ := by
    show 0 < (dec g.2).elim 1 amtOf
    cases dec g.2 with
    | none => exact Nat.one_pos
    | some i => exact amtOf_pos i

instance ringRd_payload_storable (g : GSem nD τ sig) (r : ℕ) (d : Fin 5) :
    BI.Storable (upEmb : UEmb _ 𝕄) ((ringRd m ρ).payload g r d) := by
  show BI.Storable upEmb ((dec g.2).elim iprop(emp) fun i => payOf m ρ g.1.1 i d)
  cases dec g.2 with
  | none => show BI.Storable upEmb iprop(emp); infer_instance
  | some i => rcases i with _ | _ | _ | _ <;> (simp only [Option.elim, payOf]; infer_instance)

section Sched
variable (c : Dev nD) (i : Cl)

theorem duties_eq : (ringRd m ρ).duties (kcell c i) 0 = dutiesOf i := by
  dsimp only [ringRd]; rw [if_pos ⟨rfl, rfl⟩, dec_csem]; rfl
theorem duties_later (g : GSem nD τ sig) : ∀ r, 1 ≤ r → (ringRd m ρ).duties g r = ∅ :=
  fun r hr => by dsimp only [ringRd]; rw [if_neg fun h => by omega]
theorem amount_eq (d : Fin 5) : (ringRd m ρ).amount (kcell c i) 0 d = amtOf i := by
  dsimp only [ringRd]; rw [dec_csem]; rfl
theorem payload_eq (d : Fin 5) : (ringRd m ρ).payload (kcell c i) 0 d = payOf m ρ c i d := by
  dsimp only [ringRd]; rw [dec_csem]; rfl
theorem expect_eq : (ringRd m ρ).expect (kcell c i) 0 = (dutiesOf i).card * amtOf i := by
  unfold Schedule.expect Schedule.amountOf
  rw [duties_eq, Finset.sum_congr rfl fun d _ => amount_eq m ρ c i d, Finset.sum_const, smul_eq_mul]
theorem rest_eq : bigSep ((ringRd m ρ).duties (kcell c i) 0 \ ∅) (fun d => (ringRd m ρ).payload (kcell c i) 0 d)
    = bigSep (dutiesOf i) (fun d => payOf m ρ c i d) := by
  rw [Finset.sdiff_empty, duties_eq]
  exact bigSep_congr fun d _ => payload_eq m ρ c i d
end Sched

/-! ## What a device owes; the levels -/

/-- What device `c` owes for a list of steps (cell, bit): for each, the cell's amount on that cell of the bit's neighbour. -/
def owe (c : Dev nD) : List (Cl × Fin 5) → CellTallies nD τ sig Unit
  | [] => 0
  | p :: l => owe c l + tallyAt (kcell (nb p.2 c) p.1) () (amtOf p.1)

/-- The steps in the order a device makes them: the entry signals, the five transfers, the exit signals. -/
def exitSteps : List (Cl × Fin 5) := [(clE, 0), (clE, 1), (clE, 2), (clE, 3), (clE, 4)]
def sendSteps : List (Cl × Fin 5) := (clR 0, 0) :: (clR 1, 1) :: (clR 2, 2) :: (clR 3, 3) :: (clR 4, 4) :: exitSteps
def allSteps : List (Cl × Fin 5) := (clB, 0) :: (clB, 1) :: (clB, 2) :: (clB, 3) :: (clB, 4) :: sendSteps

def L (g : GSem nD τ sig) : Finset Unit := if g.1.2 = .tc then {()} else ∅
def lv (g : GSem nD τ sig) (_ : Unit) : ℕ := (dec g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : Cl) : lv (kcell c i) () = lvOf i := by unfold lv; rw [dec_csem]; rfl

theorem owe_pos {c : Dev nD} {l : List (Cl × Fin 5)} {g : GSem nD τ sig} {u : Unit} (h : 0 < owe c l g u) :
    ∃ p ∈ l, g = kcell (nb p.2 c) p.1 := by
  induction l with
  | nil => exact absurd h (Nat.lt_irrefl 0)
  | cons p l ih =>
    rw [owe, Pi.add_apply, Finsupp.add_apply, tallyAt_apply] at h
    by_cases h' : g = kcell (nb p.2 c) p.1 ∧ u = ()
    · exact ⟨p, List.mem_cons_self, h'.1⟩
    · rw [if_neg h', Nat.add_zero] at h
      obtain ⟨q, hq, hg⟩ := ih h
      exact ⟨q, List.mem_cons_of_mem _ hq, hg⟩

omit [FloatOps F] in
/-- A device may wait on a cell below every cell it still owes. -/
theorem mayWait (c : Dev nD) (sm : SemLoc sig) (n : ℕ) (hn : (dec sm).elim 0 lvOf = n) (l : List (Cl × Fin 5)) (hl : ∀ p ∈ l, n < lvOf p.1) :
    (levAts L lv : sProp 𝕄) ⊢ MayWait (c : Thread nD τ) sm () (owe c l) :=
  MayOwe.of_cut (L := L) (lev := lv) n
    (fun p hp => by rw [Finset.mem_singleton.mp hp, L_tc]; exact Finset.mem_singleton_self _)
    (fun g u hg => by obtain ⟨p, -, rfl⟩ := owe_pos hg; exact Finset.mem_singleton_self _)
    (fun p hp => by rw [Finset.mem_singleton.mp hp]; exact le_of_eq hn)
    (fun g u hg => by obtain ⟨p, hp, rfl⟩ := owe_pos hg; rw [lv_kcell]; exact hl p hp)

end Cert.KernelIdealRun

end
-- ==== Proof.KernelIdealRun.Exchange.lean ====
/-
  One exchange, proved once for every bit: from the accumulator of `k` exchanges to that of `k + 1`.
-/
module

public import proofs.«01_k».proof.Proof.KernelIdealRun.Protocol

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem zero4 : (![0, 0, 0, 0] : Fin 4 → ℕ) = fun _ => 0 := funext fun a => by fin_cases a <;> rfl

omit [FloatOps F] in
theorem read_acc (f : (cc0_scratch1 : Ref sig .tc).ty.Contents (Elt F)) :
    (accM : Memref sig .tc .vmem S2x4x128x128 .f32).view.readAt (Elt F) accR.toLoadRect f = f :=
  Memref.readAt_unit_zero (Elt F) cc0_scratch1 zero4 _ f
omit [FloatOps F] in
theorem write_acc (f w : (cc0_scratch1 : Ref sig .tc).ty.Contents (Elt F)) :
    ((accM : Memref sig .tc .vmem S2x4x128x128 .f32).access accR : View sig .tc _ _ _).write (Elt F) f w Finset.univ = w :=
  Memref.write_access_unit_zero_univ (Elt F) cc0_scratch1 zero4 _ f w
omit [FloatOps F] in
theorem write_snd (f w : (cc0_scratch2 : Ref sig .tc).ty.Contents (Elt F)) :
    ((sndM : Memref sig .tc .vmem S2x4x128x128 .bf16).access accR : View sig .tc _ _ _).write (Elt F) f w Finset.univ = w :=
  Memref.write_access_unit_zero_univ (Elt F) cc0_scratch2 zero4 _ f w

/-- Adding a slot's block as the body loads it is adding what the slot reads. -/
theorem pay42_slot (k : Fin 5) (a : Vec F S2x4x128x128 .f32) (f : (cc0_scratch3 : Ref sig .tc).ty.Contents (Elt F)) :
    k0_pay42 a ((rcvM : Memref sig .tc .vmem S5x2x4x128x128 .bf16).view.readAt (Elt F) (rowR (off k) (off_io k)).toLoadRect f)
      = plus a ((slot k).view.read (Elt F) f) := rfl

theorem acc_succ (k : Fin 5) (c : Dev nD) :
    acc m ρ (k.val + 1) c = plus (acc m ρ k.val c) (k0_pay41 (acc m ρ k.val (nb k c))) := by
  rw [acc, Fin.ofNat_val_eq_self]

theorem row_sub (k : Fin 5) :
    (rcvM : Memref sig .tc .vmem S5x2x4x128x128 .bf16).view.setOn (rowR (off k) (off_io k)).toLoadRect.set ⊆ slotSet k := by
  have h := View.set_slice_whole cc0_scratch3 (rowR (off k) (off_io k))
  rw [View.set_slice] at h
  unfold slotSet
  exact le_of_eq h

section
variable (K : Dev nD × Cl → ℕ)

/-- A transfer addressed to `n`, the neighbour of bit `k`. -/
theorem wp_send_slot (k : Fin 5) (c n : Dev nD) (hn : n = nb k c) (l : List (Cl × Fin 5))
    {hsc : (slot k : Memref sig (Dev.tc n : Thread nD τ).2.kind .vmem S2x4x128x128 .bf16).view.ref.isScScratch = false}
    {hsrc : (sndM : Memref sig .tc .vmem S2x4x128x128 .bf16).view.WordExact} {hdst : (slot k).view.WordExact}
    {hsem : DmaTarget.Typed .vmem (.dma (recvS k)) (.remote (Dev.tc n : Thread nD τ) (slot k) (.dma (sendS k)) hsc)}
    {α : Type} {Q : α → sProp 𝕄} {kk : PUnit → Prog (TpuEff nD τ sig (Elt F) Λ₀ .tc) α}
    (fn : Buf (Elt F) ((slot k).view.loc (nb k c : Thread nD τ))) (W : Waits sig Unit) :
    iprop(cellInv ER (ringRd m ρ) (K (c, clS k)) (kcell c (clS k)) ∗ cellInv ER (ringRd m ρ) (K (nb k c, clR k)) (kcell (nb k c) (clR k))
        ∗ sndPts c (k0_pay41 (acc m ρ k.val c)) ∗ slotPts k (nb k c) fn
        ∗ owes (c : Thread nD τ) (owe c ((clR k, k) :: l)) W
        ∗ dutyTok ER (kcell c (clS k)) 0 (0 : Fin 5) ∗ reached ER (kcell c (clS k)) 0
        ∗ dutyTok ER (kcell (nb k c) (clR k)) 0 (0 : Fin 5) ∗ reached ER (kcell (nb k c) (clR k)) 0)
      ⊢ iprop(((cred (tallyAt (kcell c (clS k)) () N) ∗ owes (c : Thread nD τ) (owe c l) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sndM (.remote (Dev.tc n : Thread nD τ) (slot k) (.dma (sendS k)) hsc) (.dma (recvS k)) hsrc hdst hsem) kk) Q) := by
  subst hn
  unfold sndPts slotPts
  exact Rounds.wp_send_pointsTo 𝒱₀ ER (ringRd m ρ) (c : Thread nD τ) none (κ₁ := K (c, clS k)) (κ₂ := K (nb k c, clR k))
    (r₁ := 0) (r₂ := 0) (d₁ := (0 : Fin 5)) (d₂ := (0 : Fin 5)) (fd := fn)
    (by rw [duties_eq m ρ c (clS k)]; exact Finset.mem_singleton_self _) (by rw [duties_eq m ρ (nb k c) (clR k)]; exact Finset.mem_singleton_self _)
    () () N rfl (amount_eq m ρ c (clS k) 0) (amount_eq m ρ (nb k c) (clR k) 0) (owe c l) rfl (W := W)
    (by
      rw [payload_eq m ρ c (clS k)]
      show _ ⊢ sendPay c
      unfold sendPay sndPts
      iintro H; iexists _; iexact H)
    (by
      rw [payload_eq m ρ (nb k c) (clR k)]
      show _ ⊢ recvPay m ρ k (nb k c)
      unfold recvPay slotPts
      rw [nb_nb]
      iintro H; iexists ((slot k).view.write (Elt F) fn ((sndM : Memref sig .tc .vmem S2x4x128x128 .bf16).view.read (Elt F) (k0_pay41 (acc m ρ k.val c))) Finset.univ)
      isplitr
      · ipureintro
        rw [View.read_write_univ]
        exact View.read_whole cc0_scratch2 _
      · iexact H)

/-- What exchange `k` uses of the ghost state. -/
def stageGhost (k : Fin 5) (c : Dev nD) : sProp 𝕄 :=
  iprop((cellInv ER (ringRd m ρ) (K (c, clS k)) (kcell c (clS k)) ∗ cellInv ER (ringRd m ρ) (K (c, clR k)) (kcell c (clR k))
      ∗ cellInv ER (ringRd m ρ) (K (nb k c, clR k)) (kcell (nb k c) (clR k))
      ∗ reached ER (kcell c (clS k)) 0 ∗ reached ER (kcell (nb k c) (clR k)) 0)
    ∗ atPos ER (kcell c (clS k)) 0 ∅ 0 ∗ atPos ER (kcell c (clR k)) 0 ∅ 0
    ∗ dutyTok ER (kcell c (clS k)) 0 (0 : Fin 5) ∗ dutyTok ER (kcell (nb k c) (clR k)) 0 (0 : Fin 5))

set_option maxHeartbeats 800000 in
/-- The exchange of bit `k`. -/
theorem stage_sound (k : Fin 5) (c : Dev nD) (l : List (Cl × Fin 5)) (hl : ∀ p ∈ l, 2 + k.val < lvOf p.1)
    (n : Dev nD) (hn : n = nb k c) (o : Fin 5 → ℕ) (ho : o = off k) (io : ∀ a, o a + S1x2x4x128x128.size a ≤ S5x2x4x128x128.size a)
    (hw : (rowR o io).WholeWords (EltTy.packing .bf16)) (sS sR : DmaSem sig) (hS : sS = sendS k) (hR : sR = recvS k)
    (Q : PUnit → sProp 𝕄) :
    iprop(stageGhost m ρ K k c ∗ cred (tallyAt (kcell c (clR k)) () N) ∗ levAts L lv
        ∗ pt c accM (acc m ρ k.val c) ∗ (∃ f, pt c sndM f) ∗ (∃ f, slotPts k (nb k c) f) ∗ (∃ W, owes (c : Thread nD τ) (owe c ((clR k, k) :: l)) W)
        ∗ (iprop(pt c accM (acc m ρ (k.val + 1) c) ∗ (∃ f, pt c sndM f) ∗ (∃ f, slotPts k c f)
            ∗ semVal (kcell c (clS k)) 0 ∗ semVal (kcell c (clR k)) 0 ∗ (∃ W, owes (c : Thread nD τ) (owe c l) W)) -∗ Q ⟨⟩))
      ⊢ wp frame (wpE (defs₀ (F := F)) 𝒱₀ (c : Thread nD τ) none) Set.univ
          (stage accM sndM (Memref.isWhole_whole _) rcvM (Memref.isWhole_whole _) n o io hw sS sR) Q := by
  subst ho hS hR
  unfold stage stageGhost
  simp only [Prog.lift, Prog.bind_op, Prog.bind_ret, Prog.pure_eq_ret]
  iintro ⟨⟨⟨#HIS, #HIR, #HIN, #HrS, #HrN⟩, HaS, HaR, HtS, HtN⟩, HcR, #Hlev, Hacc, ⟨%f8, Hsnd⟩, ⟨%fn, Hn⟩, ⟨%W, HO⟩, Hk⟩
  -- the accumulator rounded into the send buffer
  iapply (wp_load 𝒱₀ (c : Thread nD τ) none Set.univ (m := accM) (Finset.subset_univ _)) $$ Hacc; iintro Hacc
  rw [read_acc]
  iapply (wp_load 𝒱₀ (c : Thread nD τ) none Set.univ (m := sndM) (Finset.subset_univ _)) $$ Hsnd; iintro Hsnd
  iapply (wp_store 𝒱₀ (c : Thread nD τ) none Set.univ (m := sndM) (r := accR) (Mk := Finset.univ) (Finset.subset_univ _)) $$ Hsnd; iintro Hsnd
  rw [write_snd]
  -- the transfer
  ihave Hsnd := (Entails.of_eq (sndPts_eq c _).symm) $$ Hsnd
  iapply (wp_send_slot m ρ K k c _ hn l fn W) $$ [Hsnd Hn HO HtS HtN]
  · isplitr; · iexact HIS
    isplitr; · iexact HIN
    isplitl [Hsnd]; · iexact Hsnd
    isplitl [Hn]; · iexact Hn
    isplitl [HO]; · iexact HO
    isplitl [HtS]; · iexact HtS
    isplitr; · iexact HrS
    isplitl [HtN]; · iexact HtN
    iexact HrN
  iintro ⟨HcS, HO⟩
  -- its departure
  iapply (Rounds.wp_wait_rest_token 𝒱₀ ER (ringRd m ρ) (c : Thread nD τ) none (κ := K (c, clS k))
      (wpE_waitDma2_eq 𝒱₀ (c : Thread nD τ) none Set.univ) (Set.mem_univ _) () (O := owe c l) (W := W) (R := 0) (m := 0) (T := ∅)
      (by rw [Nat.zero_add, expect_eq m ρ c (clS k)]; exact (Nat.one_mul _).symm)) $$ [HcS HO HaS]
  · isplitr; · iexact HIS
    isplitl [HcS]; · iexact HcS
    isplitl [HO]; · iexact HO
    isplitr; · iapply (mayWait c (.dma (sendS k)) 0 (by rw [show SemLoc.dma (sendS k) = csem (clS k) from rfl, dec_csem]; rfl) l (fun p hp => lt_of_le_of_lt (Nat.zero_le _) (hl p hp))); iexact Hlev
    iexact HaS
  iintro ⟨HO, HaS, -, Hpay⟩
  ihave Hsnd := (Entails.of_eq ((rest_eq m ρ c (clS k)).trans bigSep_singleton)) $$ Hpay
  -- the arrival
  iapply (Rounds.wp_wait_rest_token 𝒱₀ ER (ringRd m ρ) (c : Thread nD τ) none (κ := K (c, clR k))
      (wpE_waitDma2_eq 𝒱₀ (c : Thread nD τ) none Set.univ) (Set.mem_univ _) () (O := owe c l)
      (W := insert (SemLoc.dma (sendS k), ()) W) (R := 0) (m := 0) (T := ∅)
      (by rw [Nat.zero_add, expect_eq m ρ c (clR k)]; exact (Nat.one_mul _).symm)) $$ [HcR HO HaR]
  · isplitr; · iexact HIR
    isplitl [HcR]; · iexact HcR
    isplitl [HO]; · iexact HO
    isplitr; · iapply (mayWait c (.dma (recvS k)) (2 + k.val) (by rw [show SemLoc.dma (recvS k) = csem (clR k) from rfl, dec_csem]; rfl) l hl); iexact Hlev
    iexact HaR
  iintro ⟨HO, HaR, -, Hpay⟩
  ihave Hslot := (Entails.of_eq ((rest_eq m ρ c (clR k)).trans bigSep_singleton)) $$ Hpay
  -- the two cells close
  imod (Rounds.cell_close ER (ringRd m ρ) (Set.mem_univ (K (c, clS k))) (fun h => h) (R := 0 + 1) (duties_later m ρ (kcell c (clS k)))) $$ [HaS] with HzS
  · isplitr; · iexact HIS
    iexact HaS
  imod (Rounds.cell_close ER (ringRd m ρ) (Set.mem_univ (K (c, clR k))) (fun h => h) (R := 0 + 1) (duties_later m ρ (kcell c (clR k)))) $$ [HaR] with HzR
  · isplitr; · iexact HIR
    iexact HaR
  ihave Hslot := (show payOf m ρ c (clR k) 0 ⊢ recvPay m ρ k c from .rfl) $$ Hslot
  ihave Hsnd := (show payOf m ρ c (clS k) 0 ⊢ sendPay c from .rfl) $$ Hsnd
  unfold recvPay sendPay
  icases Hslot with ⟨%fr, %hfr, Hslot⟩
  icases Hsnd with ⟨%fs, Hsnd⟩
  -- the slot's block added to the accumulator
  iapply (wp_load 𝒱₀ (c : Thread nD τ) none Set.univ (m := accM) (Finset.subset_univ _)) $$ Hacc; iintro Hacc
  rw [read_acc]
  ihave Hslot := (Entails.of_eq (slotPts_eq k c fr)) $$ Hslot
  iapply (wp_load 𝒱₀ (c : Thread nD τ) none Set.univ (m := rcvM) (S := slotSet k) (f := fr) (row_sub k)) $$ Hslot; iintro Hslot
  iapply (wp_load 𝒱₀ (c : Thread nD τ) none Set.univ (m := accM) (Finset.subset_univ _)) $$ Hacc; iintro Hacc
  rw [pay42_slot, hfr]
  iapply (wp_store 𝒱₀ (c : Thread nD τ) none Set.univ (m := accM) (r := accR) (Mk := Finset.univ) (Finset.subset_univ _)) $$ Hacc; iintro Hacc
  rw [write_acc, wp_ret]; imodintro
  iapply Hk
  isplitl [Hacc]
  · rw [acc_succ]; iexact Hacc
  isplitl [Hsnd]
  · iexists fs; rw [← sndPts_eq]; iexact Hsnd
  isplitl [Hslot]
  · iexists fr; rw [slotPts_eq]; iexact Hslot
  isplitl [HzS]; · iexact HzS
  isplitl [HzR]; · iexact HzR
  iexists _; iexact HO

end

end Cert.KernelIdealRun

end
-- ==== Proof.KernelIdealRun.Handshake.lean ====
/-
  The kernel's body on one device: the entry handshake, the five exchanges, the exit handshake, and the pipeline's
  obligation for the one grid point.
-/
module

public import proofs.«01_k».proof.Proof.KernelIdealRun.Exchange

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

section Ghost
variable (K : Dev nD × Cl → ℕ)

/-- Every cell of every device is governed by the schedule and has reached round 0. -/
def records : sProp 𝕄 :=
  iprop((bigSep Finset.univ fun x : Dev nD × Cl => cellInv ER (ringRd m ρ) (K x) (kcell x.1 x.2))
    ∗ bigSep Finset.univ fun x : Dev nD × Cl => reached ER (kcell x.1 x.2) 0)

instance records_persistent : BI.Persistent (records m ρ K) := by unfold records; infer_instance

theorem inv_at (c : Dev nD) (i : Cl) : records m ρ K ⊢ cellInv ER (ringRd m ρ) (K (c, i)) (kcell c i) := by
  unfold records
  exact (sep_elim_left).trans (bigSep_elim (Φ := fun x : Dev nD × Cl => cellInv ER (ringRd m ρ) (K x) (kcell x.1 x.2)) (Finset.mem_univ (c, i)))
theorem reached_at (c : Dev nD) (i : Cl) : records m ρ K ⊢ reached ER (kcell c i) 0 := by
  unfold records
  exact (sep_elim_right).trans (bigSep_elim (Φ := fun x : Dev nD × Cl => (reached ER (kcell x.1 x.2) 0 : sProp 𝕄)) (Finset.mem_univ (c, i)))

/-- What device `c` pays on its neighbours' handshake cells of kind `i`, and with what. -/
def tokHand (i : Cl) (c : Dev nD) : sProp 𝕄 := bigSep Finset.univ fun k : Fin 5 => dutyTok ER (kcell (nb k c) i) 0 k
def tokSend (c : Dev nD) : sProp 𝕄 := bigSep Finset.univ fun k : Fin 5 => dutyTok ER (kcell c (clS k)) 0 (0 : Fin 5)
def tokRecv (c : Dev nD) : sProp 𝕄 := bigSep Finset.univ fun k : Fin 5 => dutyTok ER (kcell (nb k c) (clR k)) 0 (0 : Fin 5)
/-- A device's own positions on its twelve cells. -/
def posAll (c : Dev nD) : sProp 𝕄 :=
  iprop(atPos ER (kcell c clB) 0 ∅ 0 ∗ atPos ER (kcell c clE) 0 ∅ 0
    ∗ (bigSep Finset.univ fun k : Fin 5 => atPos ER (kcell c (clS k)) 0 ∅ 0) ∗ bigSep Finset.univ fun k : Fin 5 => atPos ER (kcell c (clR k)) 0 ∅ 0)

def ghost (c : Dev nD) : sProp 𝕄 :=
  iprop(records m ρ K ∗ posAll c ∗ tokHand clB c ∗ tokHand clE c ∗ tokSend c ∗ tokRecv c)

/-- The credit a device spends on its waits for others. -/
def credits (c : Dev nD) : sProp 𝕄 :=
  iprop(cred (tallyAt (kcell c clB) () 5) ∗ cred (tallyAt (kcell c clE) () 5) ∗ bigSep Finset.univ fun k : Fin 5 => cred (tallyAt (kcell c (clR k)) () N))

/-! ## The handshakes -/

/-- One unit to the neighbour of bit `k`. -/
theorem signal_sound (i : Cl) (b : Sem sig) (hb : csem i = .reg b) (hd : dutiesOf i = Finset.univ) (ha : amtOf i = 1)
    (k : Fin 5) (c n : Dev nD) (hn : n = nb k c) (l : List (Cl × Fin 5)) (Q : PUnit → sProp 𝕄) :
    iprop(records m ρ K ∗ dutyTok ER (kcell (nb k c) i) 0 k ∗ payOf m ρ (nb k c) i k
        ∗ (∃ W, owes (c : Thread nD τ) (owe c ((i, k) :: l)) W)
        ∗ (iprop(∃ W, owes (c : Thread nD τ) (owe c l) W) -∗ Q ⟨⟩))
      ⊢ wp frame (wpE (defs₀ (F := F)) 𝒱₀ (c : Thread nD τ) none) Set.univ (semSignalWord n b 1#32) Q := by
  subst hn
  simp only [semSignalWord, Prog.lift, Prog.bind_op, Prog.bind_ret, Prog.pure_eq_ret]
  have hc : ∀ d : Dev nD, kcell d i = ((d : Thread nD τ), SemLoc.reg b) := fun d => by unfold kcell; rw [hb]
  have ho : owe c ((i, k) :: l) = owe c l + tallyAt ((nb k c : Thread nD τ), SemLoc.reg b) () 1 := by rw [owe, ha, hc]
  have hI := inv_at m ρ K (nb k c) i
  have hR := reached_at m ρ K (nb k c) i
  have hdd := duties_eq m ρ (nb k c) i
  have hpp := payload_eq m ρ (nb k c) i k
  have haa := amount_eq m ρ (nb k c) i k
  rw [hc] at hI hR hdd hpp haa ⊢
  rw [ho]
  iintro ⟨#Hrec, Htok, Hpay, ⟨%W, HO⟩, Hk⟩
  iapply (Rounds.wp_signal 𝒱₀ ER (ringRd m ρ) (c : Thread nD τ) none (dst := (nb k c : Thread nD τ)) (κ := K (nb k c, i))
      (d := k) (by rw [hdd, hd]; exact Finset.mem_univ _) ((haa.trans ha).trans (by decide)) () (owe c l) rfl)
    $$ [HO Htok Hpay]
  · isplitr; · iapply hI; iexact Hrec
    isplitl [HO]; · iexact HO
    isplitl [Htok]; · iexact Htok
    isplitl [Hpay]; · rw [hpp]; iexact Hpay
    iapply hR; iexact Hrec
  iintro HO
  rw [wp_ret]; imodintro
  iapply Hk
  iexists W; iexact HO

/-- The wait for all five neighbours. -/
theorem await_sound (i : Cl) (b : Sem sig) (hb : csem i = .reg b) (hd : dutiesOf i = Finset.univ) (ha : amtOf i = 1)
    (c : Dev nD) (l : List (Cl × Fin 5)) (hl : ∀ p ∈ l, lvOf i < lvOf p.1) (Q : PUnit → sProp 𝕄) :
    iprop(records m ρ K ∗ levAts L lv ∗ atPos ER (kcell c i) 0 ∅ 0 ∗ cred (tallyAt (kcell c i) () 5)
        ∗ (∃ W, owes (c : Thread nD τ) (owe c l) W)
        ∗ (iprop((bigSep Finset.univ fun k : Fin 5 => payOf m ρ c i k) ∗ semVal (kcell c i) 0 ∗ (∃ W, owes (c : Thread nD τ) (owe c l) W)) -∗ Q ⟨⟩))
      ⊢ wp frame (wpE (defs₀ (F := F)) 𝒱₀ (c : Thread nD τ) none) Set.univ (semWaitWord b 5#32) Q := by
  simp only [semWaitWord, Prog.lift, Prog.bind_op, Prog.bind_ret, Prog.pure_eq_ret]
  have hc : kcell c i = ((c : Thread nD τ), SemLoc.reg b) := by unfold kcell; rw [hb]
  have hI := inv_at m ρ K c i
  have hE := expect_eq m ρ c i
  have hP := rest_eq m ρ c i
  have hL := duties_later m ρ (kcell c i)
  have hM := mayWait (F := F) c (csem i) (lvOf i) (by rw [dec_csem]; rfl) l hl
  rw [hc] at hI hE hP hL ⊢
  rw [hb] at hM
  rw [hd, ha] at hE
  rw [hd] at hP
  iintro ⟨#Hrec, #Hlev, Hat, Hc, ⟨%W, HO⟩, Hk⟩
  iapply (Rounds.wp_wait_rest_token 𝒱₀ ER (ringRd m ρ) (c : Thread nD τ) none (κ := K (c, i))
      (wpE_semWait_eq 𝒱₀ (c : Thread nD τ) none Set.univ) (Set.mem_univ _) () (O := owe c l) (W := W) (R := 0) (m := 0) (T := ∅)
      (by rw [hE]; decide)) $$ [Hc HO Hat]
  · isplitr; · iapply hI; iexact Hrec
    isplitl [Hc]; · iexact Hc
    isplitl [HO]; · iexact HO
    isplitr; · iapply hM; iexact Hlev
    iexact Hat
  iintro ⟨HO, Hat, -, Hpay⟩
  ihave Hpay := (Entails.of_eq hP) $$ Hpay
  imod (Rounds.cell_close ER (ringRd m ρ) (Set.mem_univ (K (c, i))) (fun h => h) (R := 0 + 1) hL) $$ [Hat] with Hz
  · isplitr; · iapply hI; iexact Hrec
    iexact Hat
  rw [wp_ret]; imodintro
  iapply Hk
  isplitl [Hpay]; · iexact Hpay
  isplitl [Hz]; · iexact Hz
  iexists _; iexact HO

/-- The five signals and the wait. -/
def hand (n : Fin 5 → Dev nD) (b : Sem sig) : Prog (TpuEff nD τ sig (Elt F) Λ₀ .tc) PUnit := do
  semSignalWord (n 0) b 1#32
  semSignalWord (n 1) b 1#32
  semSignalWord (n 2) b 1#32
  semSignalWord (n 3) b 1#32
  semSignalWord (n 4) b 1#32
  semWaitWord b 5#32

theorem bars_hand (b : Sems sig S_) (c : Dev nD) : bars (F := F) b c = hand (fun k => nb k c) b.sem := by
  unfold bars hand; rw [dev1_eq, dev2_eq, dev3_eq, dev4_eq, dev5_eq]
theorem exits_hand (b : Sems sig S_) (c : Dev nD) : exits (F := F) b c = hand (fun k => nb k c) b.sem := by
  unfold exits hand; rw [dev11_eq, dev12_eq, dev13_eq, dev14_eq, dev15_eq]

def handSteps (i : Cl) (l : List (Cl × Fin 5)) : List (Cl × Fin 5) := (i, 0) :: (i, 1) :: (i, 2) :: (i, 3) :: (i, 4) :: l

theorem hand_sound (i : Cl) (b : Sem sig) (hb : csem i = .reg b) (hd : dutiesOf i = Finset.univ) (ha : amtOf i = 1)
    (c : Dev nD) (l : List (Cl × Fin 5)) (hl : ∀ p ∈ l, lvOf i < lvOf p.1) (Q : PUnit → sProp 𝕄) :
    iprop(records m ρ K ∗ levAts L lv ∗ atPos ER (kcell c i) 0 ∅ 0 ∗ cred (tallyAt (kcell c i) () 5) ∗ tokHand i c
        ∗ (bigSep Finset.univ fun k : Fin 5 => payOf m ρ (nb k c) i k)
        ∗ (∃ W, owes (c : Thread nD τ) (owe c (handSteps i l)) W)
        ∗ (iprop((bigSep Finset.univ fun k : Fin 5 => payOf m ρ c i k) ∗ semVal (kcell c i) 0 ∗ (∃ W, owes (c : Thread nD τ) (owe c l) W)) -∗ Q ⟨⟩))
      ⊢ wp frame (wpE (defs₀ (F := F)) 𝒱₀ (c : Thread nD τ) none) Set.univ (hand (fun k => nb k c) b) Q := by
  unfold hand tokHand handSteps
  rw [bigSep_fin5, bigSep_fin5 (fun k => payOf m ρ (nb k c) i k)]
  iintro ⟨#Hrec, #Hlev, Hat, Hc, ⟨HT0, HT1, HT2, HT3, HT4⟩, ⟨HP0, HP1, HP2, HP3, HP4⟩, HO, Hk⟩
  rw [wp_bind]
  iapply (signal_sound m ρ K i b hb hd ha 0 c _ rfl _)
  isplitr; · iexact Hrec
  isplitl [HT0]; · iexact HT0
  isplitl [HP0]; · iexact HP0
  isplitl [HO]; · iexact HO
  iintro HO
  rw [wp_bind]
  iapply (signal_sound m ρ K i b hb hd ha 1 c _ rfl _)
  isplitr; · iexact Hrec
  isplitl [HT1]; · iexact HT1
  isplitl [HP1]; · iexact HP1
  isplitl [HO]; · iexact HO
  iintro HO
  rw [wp_bind]
  iapply (signal_sound m ρ K i b hb hd ha 2 c _ rfl _)
  isplitr; · iexact Hrec
  isplitl [HT2]; · iexact HT2
  isplitl [HP2]; · iexact HP2
  isplitl [HO]; · iexact HO
  iintro HO
  rw [wp_bind]
  iapply (signal_sound m ρ K i b hb hd ha 3 c _ rfl _)
  isplitr; · iexact Hrec
  isplitl [HT3]; · iexact HT3
  isplitl [HP3]; · iexact HP3
  isplitl [HO]; · iexact HO
  iintro HO
  rw [wp_bind]
  iapply (signal_sound m ρ K i b hb hd ha 4 c _ rfl _)
  isplitr; · iexact Hrec
  isplitl [HT4]; · iexact HT4
  isplitl [HP4]; · iexact HP4
  isplitl [HO]; · iexact HO
  iintro HO
  iapply (await_sound m ρ K i b hb hd ha c l hl _)
  isplitr; · iexact Hrec
  isplitr; · iexact Hlev
  isplitl [Hat]; · iexact Hat
  isplitl [Hc]; · iexact Hc
  isplitl [HO]; · iexact HO
  iexact Hk

/-! ## The five exchanges -/

/-- What exchange `k` takes apart from the accumulator and the send buffer, and what it gives back. -/
def stageRes (c : Dev nD) (k : Fin 5) : sProp 𝕄 :=
  iprop(atPos ER (kcell c (clS k)) 0 ∅ 0 ∗ atPos ER (kcell c (clR k)) 0 ∅ 0 ∗ dutyTok ER (kcell c (clS k)) 0 (0 : Fin 5)
    ∗ dutyTok ER (kcell (nb k c) (clR k)) 0 (0 : Fin 5) ∗ cred (tallyAt (kcell c (clR k)) () N) ∗ barPay k c)
def stageDone (c : Dev nD) (k : Fin 5) : sProp 𝕄 :=
  iprop((∃ f, slotPts k c f) ∗ semVal (kcell c (clS k)) 0 ∗ semVal (kcell c (clR k)) 0)

/-- The buffers after `k` exchanges, and what is still owed. -/
def between (c : Dev nD) (k : ℕ) (l : List (Cl × Fin 5)) : sProp 𝕄 :=
  iprop(pt c accM (acc m ρ k c) ∗ (∃ f, pt c sndM f) ∗ (∃ W, owes (c : Thread nD τ) (owe c l) W))

theorem stage_at (k : Fin 5) (c : Dev nD) (l : List (Cl × Fin 5)) (hl : ∀ p ∈ l, 2 + k.val < lvOf p.1)
    (n : Dev nD) (hn : n = nb k c) (o : Fin 5 → ℕ) (ho : o = off k) (io : ∀ a, o a + S1x2x4x128x128.size a ≤ S5x2x4x128x128.size a)
    (hw : (rowR o io).WholeWords (EltTy.packing .bf16)) (sS sR : DmaSem sig) (hS : sS = sendS k) (hR : sR = recvS k)
    (Q : PUnit → sProp 𝕄) :
    iprop(records m ρ K ∗ levAts L lv ∗ stageRes c k ∗ between m ρ c k.val ((clR k, k) :: l)
        ∗ (iprop(stageDone c k ∗ between m ρ c (k.val + 1) l) -∗ Q ⟨⟩))
      ⊢ wp frame (wpE (defs₀ (F := F)) 𝒱₀ (c : Thread nD τ) none) Set.univ
          (stage accM sndM (Memref.isWhole_whole _) rcvM (Memref.isWhole_whole _) n o io hw sS sR) Q := by
  unfold stageRes stageDone between barPay
  iintro ⟨#Hrec, #Hlev, ⟨HaS, HaR, HtS, HtN, Hc, Hn⟩, ⟨Hacc, Hsnd, HO⟩, Hk⟩
  iapply (stage_sound m ρ K k c l hl n hn o ho io hw sS sR hS hR Q)
  unfold stageGhost
  isplitl [HaS HaR HtS HtN]
  · isplitr
    · isplitr; · iapply (inv_at m ρ K c (clS k)); iexact Hrec
      isplitr; · iapply (inv_at m ρ K c (clR k)); iexact Hrec
      isplitr; · iapply (inv_at m ρ K (nb k c) (clR k)); iexact Hrec
      isplitr; · iapply (reached_at m ρ K c (clS k)); iexact Hrec
      iapply (reached_at m ρ K (nb k c) (clR k)); iexact Hrec
    isplitl [HaS]; · iexact HaS
    isplitl [HaR]; · iexact HaR
    isplitl [HtS] <;> iassumption
  isplitl [Hc]; · iexact Hc
  isplitr; · iexact Hlev
  isplitl [Hacc]; · iexact Hacc
  isplitl [Hsnd]; · iexact Hsnd
  isplitl [Hn]; · iexact Hn
  isplitl [HO]; · iexact HO
  iintro ⟨Hacc, Hsnd, Hs, HzS, HzR, HO⟩
  iapply Hk
  isplitl [Hs HzS HzR]
  · isplitl [Hs]; · iexact Hs
    isplitl [HzS] <;> iassumption
  isplitl [Hacc]; · iexact Hacc
  isplitl [Hsnd] <;> iassumption

theorem sem_send (k : Fin 5) (io : ∀ i, (![k.val] : Fin 1 → ℕ) i + S1.size i ≤ S5.size i) : (semAt cc0_scratch5 ![k.val] io).sem = sendS k := by revert k; decide
theorem sem_recv (k : Fin 5) (io : ∀ i, (![k.val] : Fin 1 → ℕ) i + S1.size i ≤ S5.size i) : (semAt cc0_scratch6 ![k.val] io).sem = recvS k := by revert k; decide

theorem stages_sound (c : Dev nD) (Q : PUnit → sProp 𝕄) :
    iprop(records m ρ K ∗ levAts L lv ∗ (bigSep Finset.univ fun k : Fin 5 => stageRes c k) ∗ between m ρ c 0 sendSteps
        ∗ (iprop((bigSep Finset.univ fun k : Fin 5 => stageDone c k) ∗ between m ρ c 5 exitSteps) -∗ Q ⟨⟩))
      ⊢ wp frame (wpE (defs₀ (F := F)) 𝒱₀ (c : Thread nD τ) none) Set.univ
          (stages accM sndM (Memref.isWhole_whole _) rcvM (Memref.isWhole_whole _) cc0_scratch5 cc0_scratch6 c) Q := by
  unfold stages sendSteps
  rw [bigSep_fin5, bigSep_fin5]
  iintro ⟨#Hrec, #Hlev, ⟨HR0, HR1, HR2, HR3, HR4⟩, HB, Hk⟩
  rw [wp_bind]
  iapply (stage_at m ρ K 0 c ((clR 1, 1) :: (clR 2, 2) :: (clR 3, 3) :: (clR 4, 4) :: exitSteps) (by decide) _ (dev6_eq c) _ rfl _ _ _ _ (sem_send 0 _) (sem_recv 0 _))
  isplitr; · iexact Hrec
  isplitr; · iexact Hlev
  isplitl [HR0]; · iexact HR0
  isplitl [HB]; · iexact HB
  iintro ⟨HD0, HB⟩
  rw [wp_bind]
  iapply (stage_at m ρ K 1 c ((clR 2, 2) :: (clR 3, 3) :: (clR 4, 4) :: exitSteps) (by decide) _ (dev7_eq c) _ rfl _ _ _ _ (sem_send 1 _) (sem_recv 1 _))
  isplitr; · iexact Hrec
  isplitr; · iexact Hlev
  isplitl [HR1]; · iexact HR1
  isplitl [HB]; · iexact HB
  iintro ⟨HD1, HB⟩
  rw [wp_bind]
  iapply (stage_at m ρ K 2 c ((clR 3, 3) :: (clR 4, 4) :: exitSteps) (by decide) _ (dev8_eq c) _ rfl _ _ _ _ (sem_send 2 _) (sem_recv 2 _))
  isplitr; · iexact Hrec
  isplitr; · iexact Hlev
  isplitl [HR2]; · iexact HR2
  isplitl [HB]; · iexact HB
  iintro ⟨HD2, HB⟩
  rw [wp_bind]
  iapply (stage_at m ρ K 3 c ((clR 4, 4) :: exitSteps) (by decide) _ (dev9_eq c) _ rfl _ _ _ _ (sem_send 3 _) (sem_recv 3 _))
  isplitr; · iexact Hrec
  isplitr; · iexact Hlev
  isplitl [HR3]; · iexact HR3
  isplitl [HB]; · iexact HB
  iintro ⟨HD3, HB⟩
  iapply (stage_at m ρ K 4 c (exitSteps) (by decide) _ (dev10_eq c) _ rfl _ _ _ _ (sem_send 4 _) (sem_recv 4 _))
  isplitr; · iexact Hrec
  isplitr; · iexact Hlev
  isplitl [HR4]; · iexact HR4
  isplitl [HB]; · iexact HB
  iintro ⟨HD4, HB⟩
  iapply Hk
  isplitr [HB]
  · isplitl [HD0]; · iexact HD0
    isplitl [HD1]; · iexact HD1
    isplitl [HD2]; · iexact HD2
    isplitl [HD3] <;> iassumption
  iexact HB

end Ghost

end Cert.KernelIdealRun

end
-- ==== Proof.KernelIdealRun.Body.lean ====
/-
  The pipeline's data for the kernel's one grid point, and the body's obligation there.
-/
module

public import proofs.«01_k».proof.Proof.KernelIdealRun.Handshake
public import proofs.«01_k».proof.Proof.Gen.KernelIdeal.Points

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := N_0
def t₀ : Fin cfg0.N := t0_0
theorem fin_N (t : Fin cfg0.N) : t = t₀ := fin_N0 t

/-! ## The pipeline's data -/

/-- The kernel's five scratch buffers, each at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def start (c : Dev nD) : sProp 𝕄 := iprop((∃ K, ghost m ρ K c) ∗ credits c ∗ levAts L lv)
/-- The twelve cells at zero, closed. -/
def zeros (c : Dev nD) : sProp 𝕄 :=
  iprop(semVal (kcell c clB) 0 ∗ semVal (kcell c clE) 0 ∗ (bigSep Finset.univ fun k : Fin 5 => semVal (kcell c (clS k)) 0)
    ∗ bigSep Finset.univ fun k : Fin 5 => semVal (kcell c (clR k)) 0)
/-- Before the point and after it. -/
def Φ₀ (c : Dev nD) : sProp 𝕄 := iprop(start m ρ c ∗ scratches c)
def Φ₁ (c : Dev nD) : sProp 𝕄 := iprop(scratches c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wqin m ρ c
    | ⟨2, _⟩ => kin m ρ c
    | ⟨3, _⟩ => vin m ρ c
    | ⟨4, _⟩ => woin m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owe c allSteps
    | ⟨_ + 1, _⟩ => 0

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The buffers the body finds, with the inputs at their contents. -/
def staged (c : Dev nD) : sProp 𝕄 :=
  iprop(pt c xM (xin m ρ c) ∗ pt c wqM (wqin m ρ c) ∗ pt c kM (kin m ρ c) ∗ pt c vM (vin m ρ c) ∗ pt c woM (woin m ρ c))

omit [FloatOps F] in
/-- The receive buffer is what the five entry signals hand over. -/
theorem slots_give (c : Dev nD) (f : Buf (Elt F) ((c : Thread nD τ).loc cc0_scratch3)) :
    (((c : Thread nD τ).loc cc0_scratch3) ↦{fullShare} f : sProp 𝕄) ⊢ bigSep Finset.univ fun k : Fin 5 => barPay k (nb k c) := by
  rw [rcv_split]
  refine bigSep_mono fun k _ => ?_
  unfold barPay
  rw [nb_nb]
  exact exists_intro (Φ := fun f => slotPts k c f) f

section Body
variable (K : Dev nD × Cl → ℕ)

abbrev bodyProg : Prog (TpuEff nD τ sig (Elt F) Λ₀ .tc) PUnit :=
  cc0_body xM (Memref.isWhole_whole _) wqM (Memref.isWhole_whole _) kM (Memref.isWhole_whole _) vM (Memref.isWhole_whole _) woM (Memref.isWhole_whole _)
    oM (Memref.isWhole_whole _) qM (Memref.isWhole_whole _) accM (Memref.isWhole_whole _) sndM (Memref.isWhole_whole _) rcvM (Memref.isWhole_whole _)
    ctxM (Memref.isWhole_whole _) cc0_scratch5 cc0_scratch6 cc0_scoped0

set_option maxHeartbeats 1000000 in
/-- The body from the launch's resources to the closed cells and the output. -/
theorem sound_body (c : Dev nD) (Q : PUnit → sProp 𝕄) :
    iprop(ghost m ρ K c ∗ credits c ∗ levAts L lv ∗ scratches c ∗ (∃ W, owes (c : Thread nD τ) (owe c allSteps) W)
        ∗ staged m ρ c ∗ (∃ f, pt c oM f)
        ∗ (iprop(Φ₁ c ∗ (∃ W, owes (c : Thread nD τ) 0 W) ∗ staged m ρ c ∗ pt c oM (outAt m ρ c)) -∗ Q ⟨⟩))
      ⊢ wp frame (wpE (defs₀ (F := F)) 𝒱₀ (c : Thread nD τ) none) Set.univ bodyProg Q := by
  unfold bodyProg
  rw [body_eq]
  unfold ghost posAll credits scratches staged tokSend tokRecv
  iintro ⟨⟨#Hrec, ⟨HpB, HpE, HpS, HpR⟩, HtB, HtE, HtS, HtR⟩, ⟨HcB, HcE, HcR⟩, #Hlev, ⟨⟨%f6, H6⟩, ⟨%f7, H7⟩, H8, ⟨%f9, H9⟩, ⟨%f10, H10⟩⟩, HO, ⟨H0, H1, H2, H3, H4⟩, ⟨%f5, H5⟩, Hk⟩
  rw [wp_bind]
  iapply ((headRun c (xin m ρ c) (wqin m ρ c) (kin m ρ c) (vin m ρ c)).2 f6 f7 Set.univ _)
  isplitl [H0]; · iexact H0
  isplitl [H1]; · iexact H1
  isplitl [H2]; · iexact H2
  isplitl [H3]; · iexact H3
  isplitl [H6]; · iexact H6
  isplitl [H7]; · iexact H7
  iintro ⟨H0, H1, H2, H3, H6, H7⟩
  -- the entry handshake
  rw [wp_bind, bars_hand]
  iapply (hand_sound m ρ K clB barS rfl rfl rfl c sendSteps (by decide) _)
  isplitr; · iexact Hrec
  isplitr; · iexact Hlev
  isplitl [HpB]; · iexact HpB
  isplitl [HcB]; · iexact HcB
  isplitl [HtB]; · iexact HtB
  isplitl [H9]; · iapply (slots_give c f9); iexact H9
  isplitl [HO]; · iexact HO
  iintro ⟨Hslots, HzB, HO⟩
  -- the exchanges
  rw [wp_bind]
  iapply (stages_sound m ρ K c _)
  isplitr; · iexact Hrec
  isplitr; · iexact Hlev
  isplitl [HpS HpR HtS HtR HcR Hslots]
  · unfold stageRes
    simp only [bigSep_sep']
    isplitl [HpS]; · iexact HpS
    isplitl [HpR]; · iexact HpR
    isplitl [HtS]; · iexact HtS
    isplitl [HtR]; · iexact HtR
    isplitl [HcR]; · iexact HcR
    iexact Hslots
  isplitl [H7 H8 HO]
  · unfold between
    isplitl [H7]; · iexact H7
    isplitl [H8]; · iexact H8
    iexact HO
  unfold stageDone between
  simp only [bigSep_sep']
  iintro ⟨⟨Hslots, HzS, HzR⟩, H7, H8, HO⟩
  -- the normalisation and the output product
  rw [wp_bind]
  iapply ((finRun c (acc m ρ 5 c) (woin m ρ c)).2 f10 f5 Set.univ _)
  isplitl [H7]; · iexact H7
  isplitl [H4]; · iexact H4
  isplitl [H10]; · iexact H10
  isplitl [H5]; · iexact H5
  iintro ⟨H7, H4, H10, H5⟩
  -- the exit handshake
  rw [exits_hand]
  iapply (hand_sound m ρ K clE exitS rfl rfl rfl c [] (by decide) _)
  isplitr; · iexact Hrec
  isplitr; · iexact Hlev
  isplitl [HpE]; · iexact HpE
  isplitl [HcE]; · iexact HcE
  isplitl [HtE]; · iexact HtE
  isplitr
  · rw [bigSep_fin5]
    simp only [payOf]
    isplitr; · iempintro
    isplitr; · iempintro
    isplitr; · iempintro
    isplitr; · iempintro
    iempintro
  isplitl [HO]; · iexact HO
  iintro ⟨-, HzE, HO⟩
  ihave H9 := (rcv_join c f9) $$ Hslots
  iapply Hk
  unfold Φ₁ scratches zeros
  isplitl [H6 H7 H8 H9 H10 HzB HzE HzS HzR]
  · isplitl [H6 H7 H8 H9 H10]
    · isplitl [H6]; · iexact H6
      isplitl [H7]; · iexists _; iexact H7
      isplitl [H8]; · iexact H8
      isplitl [H9] <;> iassumption
    isplitl [HzB]; · iexact HzB
    isplitl [HzE]; · iexact HzE
    isplitl [HzS] <;> iassumption
  isplitl [HO]; · iexact HO
  isplitl [H0 H1 H2 H3 H4]
  · isplitl [H0]; · iexact H0
    isplitl [H1]; · iexact H1
    isplitl [H2]; · iexact H2
    isplitl [H3] <;> iassumption
  rw [outAt_eq]; iexact H5

theorem before_0 (c : Dev nD) (d) : (dats m ρ 0 c).before (0 : Fin 6) t₀ d = xin m ρ c := by
  unfold Dat.before; rw [if_pos (fetch0_0 t₀)]; rfl
theorem before_1 (c : Dev nD) (d) : (dats m ρ 0 c).before (1 : Fin 6) t₀ d = wqin m ρ c := by
  unfold Dat.before; rw [if_pos (fetch0_1 t₀)]; rfl
theorem before_2 (c : Dev nD) (d) : (dats m ρ 0 c).before (2 : Fin 6) t₀ d = kin m ρ c := by
  unfold Dat.before; rw [if_pos (fetch0_2 t₀)]; rfl
theorem before_3 (c : Dev nD) (d) : (dats m ρ 0 c).before (3 : Fin 6) t₀ d = vin m ρ c := by
  unfold Dat.before; rw [if_pos (fetch0_3 t₀)]; rfl
theorem before_4 (c : Dev nD) (d) : (dats m ρ 0 c).before (4 : Fin 6) t₀ d = woin m ρ c := by
  unfold Dat.before; rw [if_pos (fetch0_4 t₀)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (xin m ρ c) ∗ stg c cc0_stg1_0 (wqin m ρ c) ∗ stg c cc0_stg2_0 (kin m ρ c)
    ∗ stg c cc0_stg3_0 (vin m ρ c) ∗ stg c cc0_stg4_0 (woin m ρ c) ∗ stg c cc0_stg5_0 (outAt m ρ c))

omit [FloatOps F] in
/-- A staging buffer held at `X` is one holding `X`. -/
theorem stg_intro (c : Dev nD) (b : Ref sig .tc) (X : b.ty.Contents (Elt F)) :
    (((c : Thread nD τ).loc b) ↦{fullShare} X : sProp 𝕄) ⊢ stg c b X := by
  iintro H; iexists X
  isplitr; · ipureintro; rfl
  iexact H

theorem body_wp (c : Dev nD) : bodyPre m ρ c ⊢ wp frame (wpE (defs₀ (F := F)) 𝒱₀ (c : Thread nD τ) none) Set.univ bodyProg (fun _ => bodyPost m ρ c) := by
  unfold bodyPre Φ₀ start
  simp only [before_0, before_1, before_2, before_3, before_4]
  unfold Dat.owesAt Pipeline.owesWithin
  iintro ⟨⟨⟨⟨%K, Hg⟩, Hc, Hlev⟩, Hscr⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  subst hg0 hg1 hg2 hg3 hg4
  iapply (sound_body m ρ K c fun _ => bodyPost m ρ c)
  isplitl [Hg]; · iexact Hg
  isplitl [Hc]; · iexact Hc
  isplitl [Hlev]; · iexact Hlev
  isplitl [Hscr]; · iexact Hscr
  isplitl [HO]; · iexists W; iexact HO
  isplitl [H0 H1 H2 H3 H4]
  · unfold staged
    isplitl [H0]; · iexact H0
    isplitl [H1]; · iexact H1
    isplitl [H2]; · iexact H2
    isplitl [H3] <;> iassumption
  isplitl [H5]; · iexists g5; iexact H5
  unfold staged bodyPost Dat.owesAt Pipeline.owesWithin
  iintro ⟨HΦ, ⟨%W', HO⟩, ⟨H0, H1, H2, H3, H4⟩, H5⟩
  isplitl [HΦ]; · iexact HΦ
  isplitl [HO]
  · iexists W'
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 _); iexact H5

theorem body_prog : defs₀ (F := F) .tc (0 : Fin 1) (t₀, cfg0.slots t₀) = bodyProg := rfl
theorem Φ_pre (c : Dev nD) : (dats m ρ 0 c).Φ t₀.castSucc = Φ₀ m ρ c := rfl
theorem Φ_post (c : Dev nD) : (dats m ρ 0 c).Φ t₀.succ = Φ₁ c := rfl
theorem after_0 (c : Dev nD) : (dats m ρ 0 c).after (0 : Fin 6) t₀ = xin m ρ c := rfl
theorem after_1 (c : Dev nD) : (dats m ρ 0 c).after (1 : Fin 6) t₀ = wqin m ρ c := rfl
theorem after_2 (c : Dev nD) : (dats m ρ 0 c).after (2 : Fin 6) t₀ = kin m ρ c := rfl
theorem after_3 (c : Dev nD) : (dats m ρ 0 c).after (3 : Fin 6) t₀ = vin m ρ c := rfl
theorem after_4 (c : Dev nD) : (dats m ρ 0 c).after (4 : Fin 6) t₀ = woin m ρ c := rfl
theorem after_5 (c : Dev nD) : (dats m ρ 0 c).after (5 : Fin 6) t₀ = outAt m ρ c := rfl

theorem body_obligation (c : Dev nD) : BodyObligation (dats (F := F) m ρ 0 c) (defs₀ (F := F)) 𝒱₀ () Set.univ := fun t => by
  rw [fin_N t, bigSep_W, bigSep_W]
  simp only [owns_whole_eq]
  rw [after_0, after_1, after_2, after_3, after_4, after_5, Φ_post, Φ_pre]
  rw [show defs₀ (F := F) .tc (0 : Fin 1) (t₀, cfg0.slots t₀) = bodyProg from body_prog]
  exact body_wp m ρ c

end Body

end Cert.KernelIdealRun

end
-- ==== Proof.KernelIdealRun.Launch.lean ====
/-
  The launch: the tokens, positions and credit every device starts with, and the run of the 32 devices.
-/
module

public import proofs.«01_k».proof.Proof.KernelIdealRun.Body
public import Idealize.ShloMosaic.Lib.Pipeline.CollectiveSegs

@[expose] public section

set_option maxRecDepth 16384

noncomputable section

namespace Cert.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem kcell_injective : Function.Injective (fun x : Dev nD × Cl => kcell x.1 x.2) := by
  rintro ⟨c, i⟩ ⟨c', i'⟩ h
  obtain rfl : c = c' := congrArg (fun g : GSem nD τ sig => g.1.1) h
  obtain rfl : i = i' := csem_injective (congrArg Prod.snd h)
  rfl
def allCells : Finset (GSem nD τ sig) := Finset.univ.map ⟨_, kcell_injective⟩

/-- The tokens of a device's own cells: four families of five. -/
def tokKey : Fin 4 × Fin 5 → Cl × Fin 5
  | (0, k) => (clB, k)
  | (1, k) => (clE, k)
  | (2, k) => (clS k, 0)
  | (3, k) => (clR k, 0)
theorem tokKey_injective : Function.Injective tokKey := by decide
def tokOf (x : Dev nD × (Fin 4 × Fin 5)) : GSem nD τ sig × ℕ × Fin 5 := (kcell x.1 (tokKey x.2).1, 0, (tokKey x.2).2)
theorem tokOf_injective : Function.Injective tokOf := by
  rintro ⟨c, y⟩ ⟨c', y'⟩ h
  obtain rfl : c = c' := congrArg (fun g : GSem nD τ sig × ℕ × Fin 5 => g.1.1.1) h
  have h1 : (tokKey y).1 = (tokKey y').1 := csem_injective (congrArg (fun g : GSem nD τ sig × ℕ × Fin 5 => g.1.2) h)
  have h2 : (tokKey y).2 = (tokKey y').2 := congrArg (fun g : GSem nD τ sig × ℕ × Fin 5 => g.2.2) h
  obtain rfl : y = y' := tokKey_injective (Prod.ext h1 h2)
  rfl
def allToks : Finset (GSem nD τ sig × ℕ × Fin 5) := Finset.univ.map ⟨tokOf, tokOf_injective⟩

def u₀ : UU := (initOf (Pipeline.cells cfgs cellOf_inj) (Pipeline.launchToks cfgs cellOf_inj), initOf allCells allToks)

/-- One family's tokens of device `c`'s own cells. -/
def ownToks (j : Fin 4) (c : Dev nD) : sProp 𝕄 :=
  bigSep Finset.univ fun k : Fin 5 => dutyTok ER (kcell c (tokKey (j, k)).1) 0 (tokKey (j, k)).2
def positions (c : Dev nD) : sProp 𝕄 := bigSep Finset.univ fun i : Cl => atPos ER (kcell c i) 0 ∅ 0

/-- What the launch element deals device `c`, and what the allocation of the cells makes of it. -/
def G (c : Dev nD) : sProp 𝕄 :=
  iprop((bigSep Finset.univ fun i : Cl => roundState ER (ringRd m ρ) (kcell c i) 0)
    ∗ (positions c ∗ bigSep Finset.univ fun i : Cl => reached ER (kcell c i) 0) ∗ bigSep Finset.univ fun j : Fin 4 => ownToks j c)
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun i : Cl => Φ (kcell c i) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Fin 4 => ownToks j c := by
    unfold allToks; rw [bigSep_map, bigSep_univ_prod]
    refine bigSep_congr fun c _ => ?_
    rw [bigSep_univ_prod]; rfl
  iintro HX
  imod (Rounds.fund ER (ringRd m ρ) allCells allToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G positions; simp only [bigSep_sep']
  isplitl [Hst]; · iexact Hst
  isplitl [Hat Hr]
  · isplitl [Hat] <;> iassumption
  iexact Htok

/-! ## The semaphores -/

omit [FloatOps F] in
theorem bigSep_unit (Φ : Unit → sProp 𝕄) : bigSep Finset.univ Φ = Φ () := by
  rw [Finset.univ_unique, bigSep_singleton]

omit [FloatOps F] in
/-- A conjunction over the twelve cells, kind by kind. -/
theorem bigSep_cl (Φ : Cl → sProp 𝕄) :
    bigSep Finset.univ Φ = iprop(Φ clB ∗ Φ clE ∗ (bigSep Finset.univ fun k : Fin 5 => Φ (clS k)) ∗ bigSep Finset.univ fun k : Fin 5 => Φ (clR k)) := by
  rw [bigSep_univ_sum, bigSep_univ_sum, bigSep_univ_sum, bigSep_unit, bigSep_unit]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell c clE) 0 ∗ (bigSep Finset.univ fun k : Fin 5 => semVal (kcell c (clS k)) 0) ∗ bigSep Finset.univ fun k : Fin 5 => semVal (kcell c (clR k)) 0) := by
  unfold Pipeline.ownSems0
  rw [bigSep_univ_sum, bigSep_univ_sum, bigSep_unit]; rfl
omit [FloatOps F] in
theorem unscopedSems0_eq (c : Dev nD) : (unscopedSems0 c : sProp 𝕄) = semVal (kcell c clB) 0 := by
  unfold unscopedSems0; rw [bigSep_eq_bigSepL_of_eq [SemLoc.reg barS] (by decide) (by decide)]; rfl

omit [FloatOps F] in
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [ownSems0_eq, unscopedSems0_eq]; rfl
omit [FloatOps F] in
theorem zeros_all (c : Dev nD) : (zeros c : sProp 𝕄) = bigSep Finset.univ fun i : Cl => semVal (kcell c i) 0 := by
  rw [bigSep_cl]; rfl

/-- On one device: its twelve counters and round states become the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Cl => iprop(∃ κ : ℕ, cellInv ER (ringRd m ρ) κ (kcell c i)))
          ∗ (positions c ∗ bigSep Finset.univ fun i : Cl => reached ER (kcell c i) 0) ∗ bigSep Finset.univ fun j : Fin 4 => ownToks j c) := by
  have halloc : iprop((bigSep Finset.univ fun i : Cl => semVal (kcell c i) 0) ∗ bigSep Finset.univ fun i : Cl => roundState ER (ringRd m ρ) (kcell c i) 0)
      ⊢ (|={Set.univ}=> bigSep Finset.univ fun i : Cl => iprop(∃ κ : ℕ, cellInv ER (ringRd m ρ) κ (kcell c i)) : sProp 𝕄) := by
    rw [← bigSep_sep']
    exact (bigSep_mono fun i _ => (Rounds.body_intro ER (ringRd m ρ) (kcell c i)).trans inv_alloc).trans (bigSep_fupd _ _)
  unfold G
  iintro ⟨Hos, Hus, Hst, Hrest⟩
  ihave Hz := (Entails.of_eq (zeros_eq (F := F) c).symm) $$ [Hos Hus]
  · isplitl [Hus] <;> iassumption
  ihave Hz := (Entails.of_eq (zeros_all (F := F) c)) $$ Hz
  imod (halloc) $$ [Hz Hst] with Hinv
  · isplitl [Hz] <;> iassumption
  imodintro
  isplitl [Hinv]; · iexact Hinv
  iexact Hrest

/-! ## The tokens dealt to the devices that use them -/

/-- On pairs (device, bit): the bit flipped in the device's number. -/
def across : Dev nD × Fin 5 ≃ Dev nD × Fin 5 where
  toFun x := (nb x.2 x.1, x.2)
  invFun x := (nb x.2 x.1, x.2)
  left_inv x := Prod.ext (nb_nb x.2 x.1) rfl
  right_inv x := Prod.ext (nb_nb x.2 x.1) rfl

omit [FloatOps F] in
theorem deal (Φ : Dev nD → Fin 5 → sProp 𝕄) :
    (bigSep Finset.univ fun c : Dev nD => bigSep Finset.univ fun k : Fin 5 => Φ c k)
      = bigSep Finset.univ fun c : Dev nD => bigSep Finset.univ fun k : Fin 5 => Φ (nb k c) k := by
  rw [← bigSep_univ_prod (fun x : Dev nD × Fin 5 => Φ x.1 x.2), bigSep_univ_equiv across, bigSep_univ_prod]; rfl

def payToks (c : Dev nD) : sProp 𝕄 := iprop(tokHand clB c ∗ tokHand clE c ∗ tokSend c ∗ tokRecv c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_dealt : (bigSep Finset.univ fun c : Dev nD => bigSep Finset.univ fun j : Fin 4 => (ownToks j c : sProp 𝕄))
    = bigSep Finset.univ fun c : Dev nD => payToks c := by
  simp only [bigSep_fin4, payToks, bigSep_sep']
  have h0 := deal (F := F) fun c k => dutyTok ER (kcell c clB) 0 k
  have h1 := deal (F := F) fun c k => dutyTok ER (kcell c clE) 0 k
  have h3 := deal (F := F) fun c k => dutyTok ER (kcell c (clR k)) 0 (0 : Fin 5)
  exact congrArg₂ _ h0 (congrArg₂ _ h1 (congrArg₂ _ rfl h3))

theorem ghost_intro (K : Dev nD × Cl → ℕ) (c : Dev nD) : iprop(records m ρ K ∗ positions c ∗ payToks c) ⊢ G' m ρ c := by
  unfold G' ghost positions payToks posAll
  rw [bigSep_cl]
  iintro ⟨#Hrec, Hpos, Htok⟩
  iexists K
  isplitr; · iexact Hrec
  isplitl [Hpos] <;> iassumption

theorem regroup :
    (bigSep Finset.univ fun c : Dev nD => iprop((bigSep Finset.univ fun i : Cl => iprop(∃ κ : ℕ, cellInv ER (ringRd m ρ) κ (kcell c i)))
          ∗ (positions c ∗ bigSep Finset.univ fun i : Cl => reached ER (kcell c i) 0) ∗ bigSep Finset.univ fun j : Fin 4 => ownToks j c) : sProp 𝕄)
      ⊢ bigSep Finset.univ (G' m ρ) := by
  rw [bigSep_sep', bigSep_sep', bigSep_sep', toks_dealt,
    ← bigSep_univ_prod (fun x : Dev nD × Cl => iprop(∃ κ : ℕ, cellInv ER (ringRd m ρ) κ (kcell x.1 x.2))),
    ← bigSep_univ_prod (fun x : Dev nD × Cl => (reached ER (kcell x.1 x.2) 0 : sProp 𝕄))]
  iintro ⟨HI, ⟨Hpos, #HR⟩, Htok⟩
  ihave HK := (BI.bigSep_exists_pi Finset.univ (fun (x : Dev nD × Cl) (κ : ℕ) => (cellInv ER (ringRd m ρ) κ (kcell x.1 x.2) : sProp 𝕄))) $$ HI
  icases HK with ⟨%K, #HI⟩
  have hone : iprop(records m ρ K ∗ bigSep Finset.univ fun c : Dev nD => iprop(positions c ∗ payToks c)) ⊢ bigSep Finset.univ (G' m ρ) :=
    (sep_mono_left (BI.bigSep_of_persistent Finset.univ (records m ρ K))).trans (by
      rw [← bigSep_sep']; exact bigSep_mono fun c _ => ghost_intro m ρ K c)
  iapply hone
  isplitr
  · unfold records; isplitl
    · iexact HI
    · iexact HR
  rw [bigSep_sep']
  isplitl [Hpos] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The credit of a list of steps: each step's amount on the device's own cell. -/
def credOf (c : Dev nD) : List (Cl × Fin 5) → sProp 𝕄
  | [] => iprop(emp)
  | p :: l => iprop(credOf c l ∗ cred (tallyAt (kcell c p.1) () (amtOf p.1)))

omit [FloatOps F] in
/-- What all devices owe for a list of steps is, device by device, what each may wait for. -/
theorem launch_steps (c : Dev nD) (l : List (Cl × Fin 5)) : (Pipeline.launchCred (fun d => owe d l) c : sProp 𝕄) ⊢ credOf c l := by
  induction l with
  | nil => exact Entails.of_eq (Pipeline.launchCred_zero c)
  | cons p l ih =>
    have h : (Pipeline.launchCred (fun d => owe d (p :: l)) c : sProp 𝕄)
        = iprop(Pipeline.launchCred (fun d => owe d l) c ∗ Pipeline.launchCred (fun d => tallyAt (kcell (nb p.2 d) p.1) () (amtOf p.1)) c) :=
      Pipeline.launchCred_add _ _ c
    rw [h]
    exact BI.sep_mono ih (Pipeline.launchCred_tallyAt (csem p.1) (nb p.2) (nb p.2) (nb_nb p.2) (nb_nb p.2) () (amtOf p.1) c)

omit [FloatOps F] in
/-- Five units are five. -/
theorem cred_five (g : GSem nD τ sig) :
    iprop(cred (tallyAt g () 1) ∗ cred (tallyAt g () 1) ∗ cred (tallyAt g () 1) ∗ cred (tallyAt g () 1) ∗ cred (tallyAt g () 1))
      ⊢ (cred (tallyAt g () 5) : sProp 𝕄) := by
  have h (n : ℕ) : iprop(cred (tallyAt g () 1) ∗ cred (tallyAt g () n)) ⊢ (cred (tallyAt g () (1 + n)) : sProp 𝕄) := by
    rw [← tallyAt_add]; exact (cred_add _ _).2
  exact (sep_mono_right ((sep_mono_right ((sep_mono_right (h 1)).trans (h 2))).trans (h 3))).trans (h 4)

omit [FloatOps F] in
theorem creds (c : Dev nD) : (Pipeline.launchCred (fun d => owe d allSteps) c : sProp 𝕄) ⊢ credits c := by
  refine (launch_steps c allSteps).trans ?_
  unfold allSteps sendSteps exitSteps credits
  simp only [credOf]
  rw [bigSep_fin5]
  iintro ⟨⟨⟨⟨⟨⟨⟨⟨⟨⟨⟨⟨⟨⟨⟨-, E4⟩, E3⟩, E2⟩, E1⟩, E0⟩, R4⟩, R3⟩, R2⟩, R1⟩, R0⟩, B4⟩, B3⟩, B2⟩, B1⟩, B0⟩
  isplitl [B0 B1 B2 B3 B4]
  · iapply (cred_five (F := F) (kcell c clB))
    isplitl [B0]; · iexact B0
    isplitl [B1]; · iexact B1
    isplitl [B2]; · iexact B2
    isplitl [B3]; · iexact B3
    iexact B4
  isplitl [E0 E1 E2 E3 E4]
  · iapply (cred_five (F := F) (kcell c clE))
    isplitl [E0]; · iexact E0
    isplitl [E1]; · iexact E1
    isplitl [E2]; · iexact E2
    isplitl [E3]; · iexact E3
    iexact E4
  isplitl [R0]; · iexact R0
  isplitl [R1]; · iexact R1
  isplitl [R2]; · iexact R2
  isplitl [R3]; · iexact R3
  iexact R4

/-! ## The side conditions of the run -/

theorem start_intro (c : Dev nD) :
    iprop(Pipeline.unscopedRestP Pipeline.Prefetch.none cfg0.spec c (fun b => m ((c : Thread nD τ).loc b)) ∗ levAts L lv
        ∗ Pipeline.launchCred (fun d => owe d allSteps) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  unfold scratches
  iintro ⟨Hr, HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> decide) allSteps (by decide)
    · exact mayWait c _ 0 (by fin_cases w <;> fin_cases s <;> decide) [] (by decide)

/-! ## The run -/

/-- What the run leaves in each window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution ends, with each array at its final contents and every counter at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d allSteps) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds what it held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.KernelIdealRun

end
-- ==== Proof.KernelIdealRun.Arrays.lean ====
/-
  The kernel's arrays as whole arrays: every window is one block, the whole array, so each input is its argument's
  contents and the result's final contents are what the body left.
-/
module

public import proofs.«01_k».proof.Proof.KernelIdealRun.Launch

@[expose] public section

noncomputable section

namespace Cert.KernelIdealRun

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem xin_eq (c : Dev nD) : xin m ρ c = m ((c : Thread nD τ).loc main_arg0) :=
  Memref.read_access_unit_zero (Elt F) main_arg0 (funext fun a => by fin_cases a <;> decide) (fun a => by fin_cases a <;> decide) _
theorem wqin_eq (c : Dev nD) : wqin m ρ c = m ((c : Thread nD τ).loc main_arg1) :=
  Memref.read_access_unit_zero (Elt F) main_arg1 (funext fun a => by fin_cases a <;> decide) (fun a => by fin_cases a <;> decide) _
theorem kin_eq (c : Dev nD) : kin m ρ c = m ((c : Thread nD τ).loc main_arg2) :=
  Memref.read_access_unit_zero (Elt F) main_arg2 (funext fun a => by fin_cases a <;> decide) (fun a => by fin_cases a <;> decide) _
theorem vin_eq (c : Dev nD) : vin m ρ c = m ((c : Thread nD τ).loc main_arg3) :=
  Memref.read_access_unit_zero (Elt F) main_arg3 (funext fun a => by fin_cases a <;> decide) (fun a => by fin_cases a <;> decide) _
theorem woin_eq (c : Dev nD) : woin m ρ c = m ((c : Thread nD τ).loc main_arg4) :=
  Memref.read_access_unit_zero (Elt F) main_arg4 (funext fun a => by fin_cases a <;> decide) (fun a => by fin_cases a <;> decide) _

/-- The result's one block, read back. -/
theorem finalA_blk (c : Dev nD) :
    (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The result's array ends at what the body left. -/
theorem finalA_out (c : Dev nD) : finalA m ρ c (5 : Fin 6) = outAt m ρ c :=
  (Memref.read_access_unit_zero (Elt F) main_v1 (funext fun a => by fin_cases a <;> decide) (fun a => by fin_cases a <;> decide)
    (finalA m ρ c (5 : Fin 6))).symm.trans (finalA_blk m ρ c)

/-- From any memory with zero counters every execution ends with the result of every device at what its body left, the
    arguments unchanged and every counter at zero. -/
theorem run_arrays : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (finalA_out m ρ c),
      (h.1 c (0 : Fin 6)).trans (finalA_in m ρ c (0 : Fin 6) rfl), (h.1 c (1 : Fin 6)).trans (finalA_in m ρ c (1 : Fin 6) rfl),
      (h.1 c (2 : Fin 6)).trans (finalA_in m ρ c (2 : Fin 6) rfl), (h.1 c (3 : Fin 6)).trans (finalA_in m ρ c (3 : Fin 6) rfl),
      (h.1 c (4 : Fin 6)).trans (finalA_in m ρ c (4 : Fin 6) rfl)⟩, h.2⟩) (run_main (F := F) m ρ)

end Cert.KernelIdealRun

end
-- ==== Proof.Frames.lean ====
/-
  The frames of the three programs: each ends without fault, its arguments unchanged and every counter at zero.
-/
module

public import proofs.«01_k».proof.Defs
public import proofs.«01_k».proof.Proof.KernelRun.Arrays
public import proofs.«01_k».proof.Proof.KernelIdealRun.Arrays
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

theorem frame_kernel : Cert.quiescent_Kernel := by
  intro m ρ _
  exact (θ_run Cert.Kernel.defs _ _).mono (fun _ h => ⟨fun c => (h.1 c).2, h.2⟩) (Cert.KernelRun.run_arrays (F := Bits) m ρ)

theorem frame_ideal : Cert.quiescent_KernelIdeal := by
  intro m ρ _
  exact (θ_run Cert.KernelIdeal.defs _ _).mono (fun _ h => ⟨fun c => (h.1 c).2, h.2⟩) (Cert.KernelIdealRun.run_arrays (F := Ideal) m ρ)

theorem frame_ideal_finite : Cert.quiescent_KernelIdeal_pre_finite_KernelIdeal := by
  intro m ρ _
  exact frame_ideal m ρ trivial

theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_finite : Cert.quiescent_ReferenceIdeal_pre_finite_ReferenceIdeal := by
  intro m ρ _
  exact frame_reference m ρ trivial

end Cert.Proof

end
-- ==== Proof.Value.Head.lean ====
/-
  What the first stretch leaves in the accumulator, as sums over the extended reals: at batch `b`, head `h` and row `i`,
  the weights of the device's 128 keys times their values in the first 64 columns, and the sum of the weights in the rest.
-/
module

public import proofs.«01_k».proof.Proof.KernelIdealRun.Head
public import Idealize.ShloMosaic.Lib.Pointwise
public import Idealize.ShloMosaic.Lib.Pipeline.Value

@[expose] public section

set_option maxRecDepth 16384

noncomputable section

namespace Cert.Value

open Cert.KernelIdeal Cert.KernelIdeal.Gen Cert.KernelIdealRun
open Idealize.ShloMosaic
open Idealize.ShloMosaic.TcCoe
open Idealize.SL.Sem

/-! ## The mask -/

/-- The key block of device `c`'s key `t`. -/
abbrev kblk (c : Fin 32) (t : Fin 128) : ℕ := 2 * c.val + t.val / 64

/-- The mask: the key's block is the row's, or the two agree modulo four. -/
abbrev keeps (a b : ℕ) : Bool := decide (a = b ∨ b % 4 = a % 4)

theorem rows_eq (i t : Fin 128) : headRun.sl.v44 (ix2 i t) = BitVec.ofNat 32 (i.val / 64) :=
  (show headRun.sl.v44 (ix2 i t) = headRun.sl.v44 (ix2 i 0) from rfl).trans
    ((by decide +kernel : ∀ i : Fin 128, headRun.sl.v44 (ix2 i 0) = BitVec.ofNat 32 (i.val / 64)) i)

theorem cols_eq (i t : Fin 128) : headRun.sl.v69 (ix2 i t) = BitVec.ofNat 32 (t.val / 64) :=
  (show headRun.sl.v69 (ix2 i t) = headRun.sl.v69 (ix2 0 t) from rfl).trans
    ((by decide +kernel : ∀ t : Fin 128, headRun.sl.v69 (ix2 0 t) = BitVec.ofNat 32 (t.val / 64)) t)

theorem dev_eq : ∀ c : Dev nD, headRun.sl.v45 c = BitVec.ofNat 32 (2 * c.val) := by
  decide +kernel

theorem kcols_eq (c : Dev nD) (i t : Fin 128) : headRun.sl.v71 c (ix2 i t) = BitVec.ofNat 32 (kblk c t) := by
  show IntOp.addi (headRun.sl.v45 c) (headRun.sl.v69 (ix2 i t)) = _
  rw [cols_eq, dev_eq]
  exact (BitVec.ofNat_add ..).symm

/-- The kernel's mask bit at row `i` and key `t`. -/
theorem mask_eq (c : Dev nD) (i t : Fin 128) : headRun.sl.r c (ix2 i t) = BitVec.ofBool (keeps (i.val / 64) (kblk c t)) := by
  unfold headRun.sl.r headRun.sl.v72 headRun.sl.v76
  pointwise [k0_pay10, rows_eq, kcols_eq, headRun.sl.v75, headRun.sl.v39]
  have ha : i.val / 64 < 2 := by omega
  have hb : kblk c t < 64 := by have : c.val < 32 := c.isLt; unfold kblk; omega
  generalize i.val / 64 = a at ha ⊢
  generalize kblk c t = b at hb ⊢
  obtain ⟨a, rfl⟩ : ∃ a' : Fin 2, a'.val = a := ⟨⟨a, ha⟩, rfl⟩
  obtain ⟨b, rfl⟩ : ∃ b' : Fin 64, b'.val = b := ⟨⟨b, hb⟩, rfl⟩
  clear ha hb
  revert a b
  decide +kernel

/-! ## The sums -/

section Sums

variable (x : S2x128x512.Idx → EReal) (wq : S512x256.Idx → EReal)

/-- The projected queries. -/
def Qv (b : Fin 2) (i : Fin 128) (n : Fin 256) : EReal := ∑ e : Fin 512, x (ix3 b i e) * wq (ix2 e n)

/-- Column `d` of head `h`. -/
abbrev hcol (h : Fin 4) (d : Fin 64) : Fin 256 := ⟨64 * h.val + d.val, by omega⟩

/-- The score of row `i` against a key with entries `kk`. -/
def Sc (b : Fin 2) (h : Fin 4) (i : Fin 128) (kk : Fin 64 → EReal) : EReal := ∑ d : Fin 64, Qv x wq b i (hcol h d) * kk d

/-- The scale, one eighth. -/
abbrev c8 : EReal := Ideal.ofBits .f32 0x3E000000#32

variable (k v : S2x128x4x64.Idx → EReal)

/-- The weight of key `t` of device `c` for row `i`. -/
def Wt (c : Fin 32) (b : Fin 2) (h : Fin 4) (i t : Fin 128) : EReal :=
  if keeps (i.val / 64) (kblk c t) then Ideal.exp (Sc x wq b h i (fun d => k (ix4 b t h d)) * c8) else 0

/-- A device's contribution to the accumulator. -/
def part (c : Fin 32) (b : Fin 2) (h : Fin 4) (i j : Fin 128) : EReal :=
  if hj : j.val < 64 then ∑ t, Wt x wq k c b h i t * v (ix4 b t h ⟨j.val, hj⟩) else ∑ t, Wt x wq k c b h i t

theorem part_o (c : Fin 32) (b : Fin 2) (h : Fin 4) (i : Fin 128) (j : Fin 64) :
    part x wq k v c b h i ⟨j.val, by omega⟩ = ∑ t, Wt x wq k c b h i t * v (ix4 b t h j) := dif_pos j.isLt

theorem part_l (c : Fin 32) (b : Fin 2) (h : Fin 4) (i : Fin 128) (j : Fin 64) :
    part x wq k v c b h i ⟨64 + j.val, by omega⟩ = ∑ t, Wt x wq k c b h i t := dif_neg (Nat.not_lt.mpr (Nat.le_add_right 64 j.val))

end Sums

/-! ## The stores -/

theorem o_apply (r : IVec S128x128 1) (q : FVec Ideal S1x128x64 .f32) (k v : FVec Ideal S1x128x1x64 .bf16) (i : Fin 128) (j : Fin 64) :
    k0_pay18 (k0_pay16 (F := Ideal) r q k v) (ix4 0 0 i j)
      = ∑ t : Fin 128, Scalar.select (r (ix2 i t))
          (Ideal.exp ((∑ d, q (ix3 0 i d) * k (ix4 0 t 0 d)) * Ideal.ofBits FTy.f32 0x3E000000#32) * v (ix4 0 t 0 j)) 0 := by
  pointwise [k0_pay18, k0_pay16, k0_pay15]

theorem l_apply (r : IVec S128x128 1) (q : FVec Ideal S1x128x64 .f32) (k : FVec Ideal S1x128x1x64 .bf16) (i : Fin 128) (j : Fin 64) :
    k0_pay19 (k0_pay17 (F := Ideal) r k0_pay11 q k) (ix4 0 0 i j)
      = ∑ t : Fin 128, Scalar.select (r (ix2 i t))
          (Ideal.exp ((∑ d, q (ix3 0 i d) * k (ix4 0 t 0 d)) * Ideal.ofBits FTy.f32 0x3E000000#32)) 0 := by
  pointwise [k0_pay19, k0_pay17, k0_pay15, k0_pay11]

variable (c : Dev nD) (f0 : Bf (F := Ideal) c xM) (f1 : Bf (F := Ideal) c wqM) (f2 : Bf (F := Ideal) c kM) (f3 : Bf (F := Ideal) c vM)

/-- The contents as functions of the index. -/
abbrev fx : S2x128x512.Idx → EReal := f0
abbrev fwq : S512x256.Idx → EReal := f1
abbrev fk : S2x128x4x64.Idx → EReal := f2
abbrev fv : S2x128x4x64.Idx → EReal := f3

theorem readAt_k (b : Fin 2) (h : Fin 4) (inb) (t : Fin 128) (d : Fin 64) :
    View.readAt (Elt Ideal) kM.view (Rect.unit (s := S2x128x4x64) ![b.val, 0, h.val, 0] S1x128x1x64.size inb).toLoadRect f2 (ix4 0 t 0 d)
      = fk c f2 (ix4 b t h d) := by
  rw [View.readAt_apply]
  pointwise
  rfl

theorem readAt_v (b : Fin 2) (h : Fin 4) (inb) (t : Fin 128) (d : Fin 64) :
    View.readAt (Elt Ideal) vM.view (Rect.unit (s := S2x128x4x64) ![b.val, 0, h.val, 0] S1x128x1x64.size inb).toLoadRect f3 (ix4 0 t 0 d)
      = fv c f3 (ix4 b t h d) := by
  rw [View.readAt_apply]
  pointwise
  rfl

theorem mem_of_idx {S : Shape} {r : Rect S} {x : r.shape.Idx} {y : S.Idx} (h : r.toLoadRect.idx x = y) : y ∈ r.set := by
  rw [← Rect.map_emb_univ]
  exact h ▸ Finset.mem_map_of_mem r.emb (Finset.mem_univ x)

/-- Stores that are all blocks of one array and cover it leave that array. -/
theorem canon_of {S : Shape} (G : S.Idx → EReal) (L : List (View.Piece (Elt Ideal) S .f32))
    (h : ∀ p ∈ L, ∀ y, p.2 y = G (p.1.toLoadRect.idx y)) (hc : ∀ z, ∃ p ∈ L, z ∈ p.1.set) (z : S.Idx) :
    View.canon L z = G z :=
  View.canon_apply_of_pieces (Val := Elt Ideal) (e := .f32) G L h z (hc z)

/-- Where an element of a block lies in the array. -/
theorem idx_q (b : Fin 2) (inb) (z : Fin 1) (i : Fin 128) (n : Fin 256) :
    (Rect.unit (s := S2x128x256) ![b.val, 0, 0] S1x128x256.size inb).toLoadRect.idx (ix3 z i n) = ix3 b i n := by
  pointwise

theorem idx_h (b : Fin 2) (h : Fin 4) (inb) (i : Fin 128) (d : Fin 64) :
    (Rect.unit (s := S2x128x256) ![b.val, 0, 64 * h.val] S1x128x64.size inb).toLoadRect.idx (ix3 0 i d) = ix3 b i (hcol h d) := by
  pointwise

theorem readAt_x (b : Fin 2) (inb) (i : Fin 128) (e : Fin 512) :
    View.readAt (Elt Ideal) xM.view (Rect.unit (s := S2x128x512) ![b.val, 0, 0] S1x128x512.size inb).toLoadRect f0 (ix3 0 i e)
      = fx c f0 (ix3 b i e) := by
  rw [View.readAt_apply]
  pointwise
  rfl

theorem readAt_wq (inb) (e : Fin 512) (n : Fin 256) :
    View.readAt (Elt Ideal) wqM.view (Rect.unit (s := S512x256) ![0, 0] S512x256.size inb).toLoadRect f1 (ix2 e n)
      = fwq c f1 (ix2 e n) := by
  rw [View.readAt_apply]
  pointwise
  rfl

/-- The projected queries as one array. -/
def Qarr (z : S2x128x256.Idx) : EReal := Qv (fx c f0) (fwq c f1) (z 0) (z 1) (z 2)

/-- One store into the queries' buffer. -/
theorem qpiece (b : Fin 2) (inb) (inb') (inb'') (y : S1x128x256.Idx) :
    k0_pay2 (View.readAt (Elt Ideal) xM.view (Rect.unit (s := S2x128x512) ![b.val, 0, 0] S1x128x512.size inb).toLoadRect f0)
        (View.readAt (Elt Ideal) wqM.view (Rect.unit (s := S512x256) ![0, 0] S512x256.size inb').toLoadRect f1) y
      = Qarr c f0 f1 ((Rect.unit (s := S2x128x256) ![b.val, 0, 0] S1x128x256.size inb'').toLoadRect.idx y) := by
  idx_vars y
  refine Eq.trans ?_ (congrArg (Qarr c f0 f1) (idx_q b inb'' y0 y1 y2)).symm
  pointwise [k0_pay2]
  exact Finset.sum_congr rfl fun e _ => congrArg₂ (· * ·) (readAt_x c f0 b inb y1 e) (readAt_wq c f1 inb' e y2)

/-- What a load of head `h`'s queries reads. -/
theorem q_read (b : Fin 2) (h : Fin 4) (inb) (i : Fin 128) (d : Fin 64) :
    qM.view.readCov (headRun.sl.H6_2 c f0 f1) (Rect.unit (s := S2x128x256) ![b.val, 0, 64 * h.val] S1x128x64.size inb).toLoadRect (ix3 0 i d)
      = Qv (fx c f0) (fwq c f1) b i (hcol h d) := by
  rw [View.readCov_eq_canon']
  refine (congrArg _ (idx_h b h inb i d)).trans ((View.canon_apply_of_pieces (Val := Elt Ideal) (Qarr c f0 f1) _ ?_ _ ?_).trans rfl)
  · intro p hp
    unfold headRun.sl.H6_2 at hp
    rcases List.mem_cons.mp hp with rfl | hp
    · exact qpiece c f0 f1 1 _ _ inb_S2x128x256_S1x128x256_1_0_0
    rcases List.mem_singleton.mp hp with rfl
    exact qpiece c f0 f1 0 _ _ inb_S2x128x256_S1x128x256_0_0_0
  · unfold headRun.sl.H6_2
    rcases (show b = 0 ∨ b = 1 by omega) with rfl | rfl
    · exact ⟨_, List.mem_cons_of_mem _ List.mem_cons_self, mem_of_idx (idx_q 0 inb_S2x128x256_S1x128x256_0_0_0 0 i (hcol h d))⟩
    · exact ⟨_, List.mem_cons_self, mem_of_idx (idx_q 1 inb_S2x128x256_S1x128x256_1_0_0 0 i (hcol h d))⟩

/-- The accumulator's contents as one array. -/
def Part (z : S2x4x128x128.Idx) : EReal := part (fx c f0) (fwq c f1) (fk c f2) (fv c f3) c (z 0) (z 1) (z 2) (z 3)

theorem idx_o (b : Fin 2) (h : Fin 4) (inb) (z z' : Fin 1) (i : Fin 128) (j : Fin 64) :
    (Rect.unit (s := S2x4x128x128) ![b.val, h.val, 0, 0] S1x1x128x64.size inb).toLoadRect.idx (ix4 z z' i j)
      = ix4 b h i ⟨j.val, by omega⟩ := by
  pointwise

theorem idx_l (b : Fin 2) (h : Fin 4) (inb) (z z' : Fin 1) (i : Fin 128) (j : Fin 64) :
    (Rect.unit (s := S2x4x128x128) ![b.val, h.val, 0, 64] S1x1x128x64.size inb).toLoadRect.idx (ix4 z z' i j)
      = ix4 b h i ⟨64 + j.val, by omega⟩ := by
  pointwise

/-- A store of weighted values. -/
theorem opiece (b : Fin 2) (h : Fin 4) (inb) (inb') (inb'') (y : S1x1x128x64.Idx) :
    k0_pay18 (k0_pay16 (headRun.sl.r c)
        (qM.view.readCov (headRun.sl.H6_2 c f0 f1) (Rect.unit (s := S2x128x256) ![b.val, 0, 64 * h.val] S1x128x64.size inb).toLoadRect)
        (View.readAt (Elt Ideal) kM.view (Rect.unit (s := S2x128x4x64) ![b.val, 0, h.val, 0] S1x128x1x64.size inb').toLoadRect f2)
        (View.readAt (Elt Ideal) vM.view (Rect.unit (s := S2x128x4x64) ![b.val, 0, h.val, 0] S1x128x1x64.size inb').toLoadRect f3)) y
      = Part c f0 f1 f2 f3 ((Rect.unit (s := S2x4x128x128) ![b.val, h.val, 0, 0] S1x1x128x64.size inb'').toLoadRect.idx y) := by
  idx_vars y
  refine Eq.trans ?_ (congrArg (Part c f0 f1 f2 f3) (idx_o b h inb'' y0 y1 y2 y3)).symm
  rw [show y0 = 0 from Subsingleton.elim _ _, show y1 = 0 from Subsingleton.elim _ _]
  refine Eq.trans (o_apply ..) (Eq.trans (Finset.sum_congr rfl fun t _ => ?_)
    (part_o (fx c f0) (fwq c f1) (fk c f2) (fv c f3) c b h y2 y3).symm)
  rw [mask_eq, Scalar.select_ofBool, readAt_v, Finset.sum_congr rfl fun d _ => congrArg₂ (· * ·) (q_read c f0 f1 b h inb y2 d) (readAt_k c f2 b h inb' t d)]
  unfold Wt Sc
  split
  · rfl
  · exact (zero_mul _).symm

/-- A store of weight sums. -/
theorem lpiece (b : Fin 2) (h : Fin 4) (inb) (inb') (inb'') (y : S1x1x128x64.Idx) :
    k0_pay19 (k0_pay17 (headRun.sl.r c) k0_pay11
        (qM.view.readCov (headRun.sl.H6_2 c f0 f1) (Rect.unit (s := S2x128x256) ![b.val, 0, 64 * h.val] S1x128x64.size inb).toLoadRect)
        (View.readAt (Elt Ideal) kM.view (Rect.unit (s := S2x128x4x64) ![b.val, 0, h.val, 0] S1x128x1x64.size inb').toLoadRect f2)) y
      = Part c f0 f1 f2 f3 ((Rect.unit (s := S2x4x128x128) ![b.val, h.val, 0, 64] S1x1x128x64.size inb'').toLoadRect.idx y) := by
  idx_vars y
  refine Eq.trans ?_ (congrArg (Part c f0 f1 f2 f3) (idx_l b h inb'' y0 y1 y2 y3)).symm
  rw [show y0 = 0 from Subsingleton.elim _ _, show y1 = 0 from Subsingleton.elim _ _]
  refine Eq.trans (l_apply ..) (Eq.trans (Finset.sum_congr rfl fun t _ => ?_)
    (part_l (fx c f0) (fwq c f1) (fk c f2) (fv c f3) c b h y2 y3).symm)
  rw [mask_eq, Scalar.select_ofBool, Finset.sum_congr rfl fun d _ => congrArg₂ (· * ·) (q_read c f0 f1 b h inb y2 d) (readAt_k c f2 b h inb' t d)]
  rfl

/-- Every store into the accumulator is its block of `Part`. -/
theorem head_pieces : ∀ p ∈ headRun.sl.H7_16 c f0 f1 f2 f3, ∀ y, p.2 y = Part c f0 f1 f2 f3 (p.1.toLoadRect.idx y) := by
  intro p hp
  unfold headRun.sl.H7_16 headRun.sl.H7_13 headRun.sl.H7_10 headRun.sl.H7_8 headRun.sl.H7_6 headRun.sl.H7_2 at hp
  simp only [List.mem_cons, List.not_mem_nil, or_false] at hp
  rcases hp with rfl | rfl | rfl | rfl | rfl | rfl | rfl | rfl | rfl | rfl | rfl | rfl | rfl | rfl | rfl | rfl
  · exact lpiece c f0 f1 f2 f3 1 3 inb_S2x128x256_S1x128x64_1_0_192 inb_S2x128x4x64_S1x128x1x64_1_0_3_0 inb_S2x4x128x128_S1x1x128x64_1_3_0_64
  · exact opiece c f0 f1 f2 f3 1 3 inb_S2x128x256_S1x128x64_1_0_192 inb_S2x128x4x64_S1x128x1x64_1_0_3_0 inb_S2x4x128x128_S1x1x128x64_1_3_0_0
  · exact lpiece c f0 f1 f2 f3 1 2 inb_S2x128x256_S1x128x64_1_0_128 inb_S2x128x4x64_S1x128x1x64_1_0_2_0 inb_S2x4x128x128_S1x1x128x64_1_2_0_64
  · exact opiece c f0 f1 f2 f3 1 2 inb_S2x128x256_S1x128x64_1_0_128 inb_S2x128x4x64_S1x128x1x64_1_0_2_0 inb_S2x4x128x128_S1x1x128x64_1_2_0_0
  · exact lpiece c f0 f1 f2 f3 1 1 inb_S2x128x256_S1x128x64_1_0_64 inb_S2x128x4x64_S1x128x1x64_1_0_1_0 inb_S2x4x128x128_S1x1x128x64_1_1_0_64
  · exact opiece c f0 f1 f2 f3 1 1 inb_S2x128x256_S1x128x64_1_0_64 inb_S2x128x4x64_S1x128x1x64_1_0_1_0 inb_S2x4x128x128_S1x1x128x64_1_1_0_0
  · exact lpiece c f0 f1 f2 f3 1 0 inb_S2x128x256_S1x128x64_1_0_0 inb_S2x128x4x64_S1x128x1x64_1_0_0_0 inb_S2x4x128x128_S1x1x128x64_1_0_0_64
  · exact opiece c f0 f1 f2 f3 1 0 inb_S2x128x256_S1x128x64_1_0_0 inb_S2x128x4x64_S1x128x1x64_1_0_0_0 inb_S2x4x128x128_S1x1x128x64_1_0_0_0
  · exact lpiece c f0 f1 f2 f3 0 3 inb_S2x128x256_S1x128x64_0_0_192 inb_S2x128x4x64_S1x128x1x64_0_0_3_0 inb_S2x4x128x128_S1x1x128x64_0_3_0_64
  · exact opiece c f0 f1 f2 f3 0 3 inb_S2x128x256_S1x128x64_0_0_192 inb_S2x128x4x64_S1x128x1x64_0_0_3_0 inb_S2x4x128x128_S1x1x128x64_0_3_0_0
  · exact lpiece c f0 f1 f2 f3 0 2 inb_S2x128x256_S1x128x64_0_0_128 inb_S2x128x4x64_S1x128x1x64_0_0_2_0 inb_S2x4x128x128_S1x1x128x64_0_2_0_64
  · exact opiece c f0 f1 f2 f3 0 2 inb_S2x128x256_S1x128x64_0_0_128 inb_S2x128x4x64_S1x128x1x64_0_0_2_0 inb_S2x4x128x128_S1x1x128x64_0_2_0_0
  · exact lpiece c f0 f1 f2 f3 0 1 inb_S2x128x256_S1x128x64_0_0_64 inb_S2x128x4x64_S1x128x1x64_0_0_1_0 inb_S2x4x128x128_S1x1x128x64_0_1_0_64
  · exact opiece c f0 f1 f2 f3 0 1 inb_S2x128x256_S1x128x64_0_0_64 inb_S2x128x4x64_S1x128x1x64_0_0_1_0 inb_S2x4x128x128_S1x1x128x64_0_1_0_0
  · exact lpiece c f0 f1 f2 f3 0 0 inb_S2x128x256_S1x128x64_0_0_0 inb_S2x128x4x64_S1x128x1x64_0_0_0_0 inb_S2x4x128x128_S1x1x128x64_0_0_0_64
  · exact opiece c f0 f1 f2 f3 0 0 inb_S2x128x256_S1x128x64_0_0_0 inb_S2x128x4x64_S1x128x1x64_0_0_0_0 inb_S2x4x128x128_S1x1x128x64_0_0_0_0

/-- The stores cover the accumulator. -/
theorem head_covers (z : S2x4x128x128.Idx) : ∃ p ∈ headRun.sl.H7_16 c f0 f1 f2 f3, z ∈ p.1.set := by
  idx_vars z
  have at_ : ∀ n (hn : n < 16) {w}, ((headRun.sl.H7_16 c f0 f1 f2 f3)[n]'hn).1.toLoadRect.idx w = ix4 z0 z1 z2 z3 →
      ∃ p ∈ headRun.sl.H7_16 c f0 f1 f2 f3, ix4 z0 z1 z2 z3 ∈ p.1.set :=
    fun n hn {_} e => ⟨_, List.getElem_mem hn, mem_of_idx e⟩
  rcases Nat.lt_or_ge z3.val 64 with hz | hz
  · rcases (show z0 = 0 ∨ z0 = 1 by omega) with rfl | rfl <;>
      rcases (show z1 = 0 ∨ z1 = 1 ∨ z1 = 2 ∨ z1 = 3 by omega) with rfl | rfl | rfl | rfl
    · exact at_ 15 (by decide) (idx_o 0 0 inb_S2x4x128x128_S1x1x128x64_0_0_0_0 0 0 z2 ⟨z3.val, hz⟩)
    · exact at_ 13 (by decide) (idx_o 0 1 inb_S2x4x128x128_S1x1x128x64_0_1_0_0 0 0 z2 ⟨z3.val, hz⟩)
    · exact at_ 11 (by decide) (idx_o 0 2 inb_S2x4x128x128_S1x1x128x64_0_2_0_0 0 0 z2 ⟨z3.val, hz⟩)
    · exact at_ 9 (by decide) (idx_o 0 3 inb_S2x4x128x128_S1x1x128x64_0_3_0_0 0 0 z2 ⟨z3.val, hz⟩)
    · exact at_ 7 (by decide) (idx_o 1 0 inb_S2x4x128x128_S1x1x128x64_1_0_0_0 0 0 z2 ⟨z3.val, hz⟩)
    · exact at_ 5 (by decide) (idx_o 1 1 inb_S2x4x128x128_S1x1x128x64_1_1_0_0 0 0 z2 ⟨z3.val, hz⟩)
    · exact at_ 3 (by decide) (idx_o 1 2 inb_S2x4x128x128_S1x1x128x64_1_2_0_0 0 0 z2 ⟨z3.val, hz⟩)
    · exact at_ 1 (by decide) (idx_o 1 3 inb_S2x4x128x128_S1x1x128x64_1_3_0_0 0 0 z2 ⟨z3.val, hz⟩)
  · obtain ⟨j, hj⟩ : ∃ j : Fin 64, z3 = ⟨64 + j.val, by omega⟩ := ⟨⟨z3.val - 64, by omega⟩, Fin.ext (by show z3.val = 64 + (z3.val - 64); omega)⟩
    rcases (show z0 = 0 ∨ z0 = 1 by omega) with rfl | rfl <;>
      rcases (show z1 = 0 ∨ z1 = 1 ∨ z1 = 2 ∨ z1 = 3 by omega) with rfl | rfl | rfl | rfl
    · exact at_ 14 (by decide) ((idx_l 0 0 inb_S2x4x128x128_S1x1x128x64_0_0_0_64 0 0 z2 j).trans (congrArg (ix4 _ _ z2) hj.symm))
    · exact at_ 12 (by decide) ((idx_l 0 1 inb_S2x4x128x128_S1x1x128x64_0_1_0_64 0 0 z2 j).trans (congrArg (ix4 _ _ z2) hj.symm))
    · exact at_ 10 (by decide) ((idx_l 0 2 inb_S2x4x128x128_S1x1x128x64_0_2_0_64 0 0 z2 j).trans (congrArg (ix4 _ _ z2) hj.symm))
    · exact at_ 8 (by decide) ((idx_l 0 3 inb_S2x4x128x128_S1x1x128x64_0_3_0_64 0 0 z2 j).trans (congrArg (ix4 _ _ z2) hj.symm))
    · exact at_ 6 (by decide) ((idx_l 1 0 inb_S2x4x128x128_S1x1x128x64_1_0_0_64 0 0 z2 j).trans (congrArg (ix4 _ _ z2) hj.symm))
    · exact at_ 4 (by decide) ((idx_l 1 1 inb_S2x4x128x128_S1x1x128x64_1_1_0_64 0 0 z2 j).trans (congrArg (ix4 _ _ z2) hj.symm))
    · exact at_ 2 (by decide) ((idx_l 1 2 inb_S2x4x128x128_S1x1x128x64_1_2_0_64 0 0 z2 j).trans (congrArg (ix4 _ _ z2) hj.symm))
    · exact at_ 0 (by decide) ((idx_l 1 3 inb_S2x4x128x128_S1x1x128x64_1_3_0_64 0 0 z2 j).trans (congrArg (ix4 _ _ z2) hj.symm))

theorem head_canon (z : S2x4x128x128.Idx) :
    View.canon (Val := Elt Ideal) (headRun.sl.H7_16 c f0 f1 f2 f3) z = Part c f0 f1 f2 f3 z := by
  have h1 := head_pieces c f0 f1 f2 f3
  have h2 := head_covers c f0 f1 f2 f3
  generalize headRun.sl.H7_16 c f0 f1 f2 f3 = L at h1 h2 ⊢
  generalize Part c f0 f1 f2 f3 = G at h1 ⊢
  exact canon_of G L h1 h2 z

theorem head_writes : (headRun c f0 f1 f2 f3).1.1
    = accM.view.writes (Elt Ideal) accM.view.junk (headRun.sl.H7_16 c f0 f1 f2 f3) := by
  delta headRun
  rfl

/-- What the first stretch leaves in the accumulator. -/
theorem head_apply (z : S2x4x128x128.Idx) :
    accM.view.read (Elt Ideal) (headRun c f0 f1 f2 f3).1.1 z = Part c f0 f1 f2 f3 z := by
  rw [head_writes]
  have h := head_canon c f0 f1 f2 f3 z
  generalize headRun.sl.H7_16 c f0 f1 f2 f3 = L at h ⊢
  exact (View.read_writes_junk_apply_eq_canon (Val := Elt Ideal) accM.view z L).trans h

end Cert.Value

end
-- ==== Proof.Value.Tail.lean ====
/-
  The rest of the body as sums over the extended reals: five exchanges add up the contributions of all devices, and the
  last stretch divides the weighted values by the weight sums and multiplies by the output weights.
-/
module

public import proofs.«01_k».proof.Proof.Value.Head
public import proofs.«01_k».proof.Proof.KernelIdealRun.Protocol

@[expose] public section

set_option maxRecDepth 16384

noncomputable section

namespace Cert.Value

open Cert.KernelIdeal Cert.KernelIdeal.Gen Cert.KernelIdealRun
open Idealize.ShloMosaic
open Idealize.ShloMosaic.TcCoe
open Idealize.SL.Sem

/-! ## The exchanges -/

/-- The device that differs from `c` in the bits of `e`. -/
def px (c : Fin 32) (e : ℕ) : Fin 32 := ⟨(c.val ^^^ e) % 32, Nat.mod_lt _ (by decide)⟩

theorem px_nb : ∀ (k : Fin 5) (c : Fin 32) (e : Fin 16), e.val < 2 ^ k.val → px (nb k c) e.val = px c (2 ^ k.val + e.val) := by
  decide +kernel

theorem px_px : ∀ c e : Fin 32, px c (px c e.val).val = e := by decide +kernel

/-- `k` exchanges add up the contributions of the devices that differ in the low `k` bits. -/
theorem exchange_sum (g : Fin 32 → EReal) (S : ℕ → Fin 32 → EReal) (h0 : ∀ c, S 0 c = g c)
    (hs : ∀ k c, S (k + 1) c = S k c + S k (nb (Fin.ofNat 5 k) c)) :
    ∀ k, k ≤ 5 → ∀ c, S k c = ∑ e ∈ Finset.range (2 ^ k), g (px c e) := by
  intro k
  induction k with
  | zero =>
    intro _ c
    rw [h0, pow_zero, Finset.sum_range_one]
    exact congrArg g (Fin.ext (by show c.val = (c.val ^^^ 0) % 32; rw [Nat.xor_zero]; omega))
  | succ k ih =>
    intro hk c
    have hk5 : (Fin.ofNat 5 k).val = k := Nat.mod_eq_of_lt (by omega)
    rw [hs, ih (by omega), ih (by omega), pow_succ, Nat.mul_two, Finset.sum_range_add]
    refine congrArg _ (Finset.sum_congr rfl fun e he => congrArg g ?_)
    have he' : e < 2 ^ k := Finset.mem_range.mp he
    have h16 : 2 ^ k ≤ 2 ^ 4 := Nat.pow_le_pow_right (by decide) (by omega)
    have := px_nb (Fin.ofNat 5 k) c ⟨e, by omega⟩ (by rw [hk5]; exact he')
    rw [hk5] at this
    exact this

/-- After five exchanges every device holds the sum over all devices. -/
theorem exchange_all (g : Fin 32 → EReal) (S : ℕ → Fin 32 → EReal) (h0 : ∀ c, S 0 c = g c)
    (hs : ∀ k c, S (k + 1) c = S k c + S k (nb (Fin.ofNat 5 k) c)) (c : Fin 32) : S 5 c = ∑ d, g d := by
  rw [exchange_sum g S h0 hs 5 le_rfl c, show 2 ^ 5 = 32 from rfl, Finset.sum_range]
  exact Equiv.sum_comp (Function.Involutive.toPerm (fun e : Fin 32 => px c e.val) (px_px c)) g

theorem plus_apply (a b : FVec Ideal S2x4x128x128 .f32) (z : S2x4x128x128.Idx) :
    plus (F := Ideal) a (k0_pay41 b) z = a z + b z := by
  idx_vars z
  pointwise [plus, k0_pay41]

variable (m : (ℓ : Loc nD τ sig) → Buf (Elt Ideal) ℓ) (ρ : Dev nD → PrngReg)

/-- The accumulator as a function of the index. -/
abbrev accf (k : ℕ) (c : Dev nD) : S2x4x128x128.Idx → EReal := acc m ρ k c

/-- The accumulator after the exchanges: the same on every device. -/
theorem acc_all (c : Dev nD) (z : S2x4x128x128.Idx) :
    accf m ρ 5 c z = ∑ d : Fin 32, Part d (xin m ρ d) (wqin m ρ d) (kin m ρ d) (vin m ρ d) z :=
  exchange_all _ (fun k c => accf m ρ k c z)
    (fun d => head_apply d (xin m ρ d) (wqin m ρ d) (kin m ρ d) (vin m ρ d) z)
    (fun k d => plus_apply (acc m ρ k d) (acc m ρ k (nb (Fin.ofNat 5 k) d)) z) c

/-! ## The division and the output product -/

/-- The attention output at column `n`: the weighted values of its head over the head's weight sum. -/
def ctxv (A : S2x4x128x128.Idx → EReal) (b : Fin 2) (i : Fin 128) (n : Fin 256) : EReal :=
  Ideal.div (A (ix4 b ⟨n.val / 64, by omega⟩ i ⟨n.val % 64, by omega⟩)) (A (ix4 b ⟨n.val / 64, by omega⟩ i 64))

theorem ctxv_hcol (A : S2x4x128x128.Idx → EReal) (b : Fin 2) (i : Fin 128) (h : Fin 4) (d : Fin 64) :
    ctxv A b i (hcol h d) = Ideal.div (A (ix4 b h i ⟨d.val, by omega⟩)) (A (ix4 b h i 64)) := by
  unfold ctxv
  have h1 : (⟨(hcol h d).val / 64, by omega⟩ : Fin 4) = h := Fin.ext (by show (64 * h.val + d.val) / 64 = h.val; omega)
  have h2 : (⟨(hcol h d).val % 64, by omega⟩ : Fin 128) = ⟨d.val, by omega⟩ := Fin.ext (by show (64 * h.val + d.val) % 64 = d.val; omega)
  rw [h1, h2]

section Fin_

variable (c : Dev nD) (f7 : Bf (F := Ideal) c accM) (f4 : Bf (F := Ideal) c woM)

abbrev facc : S2x4x128x128.Idx → EReal := f7
abbrev fwo : S256x512.Idx → EReal := f4

/-- The attention output as one array. -/
def Ctx (z : S2x128x256.Idx) : EReal := ctxv (facc c f7) (z 0) (z 1) (z 2)

theorem readAt_o (b : Fin 2) (h : Fin 4) (inb) (i : Fin 128) (d : Fin 64) :
    View.readAt (Elt Ideal) accM.view (Rect.unit (s := S2x4x128x128) ![b.val, h.val, 0, 0] S1x1x128x64.size inb).toLoadRect f7 (ix4 0 0 i d)
      = facc c f7 (ix4 b h i ⟨d.val, by omega⟩) := by
  rw [View.readAt_apply]
  pointwise
  rfl

theorem readAt_l (b : Fin 2) (h : Fin 4) (inb) (i : Fin 128) :
    View.readAt (Elt Ideal) accM.view (Rect.unit (s := S2x4x128x128) ![b.val, h.val, 0, 64] S1x1x128x1.size inb).toLoadRect f7 (ix4 0 0 i 0)
      = facc c f7 (ix4 b h i 64) := by
  rw [View.readAt_apply]
  pointwise
  rfl

theorem readAt_wo (inb) (e : Fin 256) (n : Fin 512) :
    View.readAt (Elt Ideal) woM.view (Rect.unit (s := S256x512) ![0, 0] S256x512.size inb).toLoadRect f4 (ix2 e n)
      = fwo c f4 (ix2 e n) := by
  rw [View.readAt_apply]
  pointwise
  rfl

theorem div_apply (o : FVec Ideal S1x1x128x64 .f32) (l : FVec Ideal S1x1x128x1 .f32) (z : Fin 1) (i : Fin 128) (d : Fin 64) :
    k0_pay52 (F := Ideal) o l (ix3 z i d) = Ideal.div (o (ix4 0 0 i d)) (l (ix4 0 0 i 0)) := by
  pointwise [k0_pay52]

theorem idx_hz (b : Fin 2) (h : Fin 4) (inb) (z : Fin 1) (i : Fin 128) (d : Fin 64) :
    (Rect.unit (s := S2x128x256) ![b.val, 0, 64 * h.val] S1x128x64.size inb).toLoadRect.idx (ix3 z i d) = ix3 b i (hcol h d) := by
  pointwise

/-- One store of a head's attention output. -/
theorem cpiece (b : Fin 2) (h : Fin 4) (inb) (inb') (inb'') (y : S1x128x64.Idx) :
    k0_pay52 (View.readAt (Elt Ideal) accM.view (Rect.unit (s := S2x4x128x128) ![b.val, h.val, 0, 0] S1x1x128x64.size inb).toLoadRect f7)
        (View.readAt (Elt Ideal) accM.view (Rect.unit (s := S2x4x128x128) ![b.val, h.val, 0, 64] S1x1x128x1.size inb').toLoadRect f7) y
      = Ctx c f7 ((Rect.unit (s := S2x128x256) ![b.val, 0, 64 * h.val] S1x128x64.size inb'').toLoadRect.idx y) := by
  idx_vars y
  refine Eq.trans ?_ (congrArg (Ctx c f7) (idx_hz b h inb'' y0 y1 y2)).symm
  refine (div_apply ..).trans ((congrArg₂ Ideal.div (readAt_o c f7 b h inb y1 y2) (readAt_l c f7 b h inb' y1)).trans ?_)
  exact (ctxv_hcol (facc c f7) b y1 h y2).symm

theorem ctx_pieces : ∀ p ∈ finRun.sl.H10_8 c f7, ∀ y, p.2 y = Ctx c f7 (p.1.toLoadRect.idx y) := by
  intro p hp
  unfold finRun.sl.H10_8 finRun.sl.H10_6 finRun.sl.H10_4 finRun.sl.H10_1 at hp
  simp only [List.mem_cons, List.not_mem_nil, or_false] at hp
  rcases hp with rfl | rfl | rfl | rfl | rfl | rfl | rfl | rfl
  · exact cpiece c f7 1 3 inb_S2x4x128x128_S1x1x128x64_1_3_0_0 inb_S2x4x128x128_S1x1x128x1_1_3_0_64 inb_S2x128x256_S1x128x64_1_0_192
  · exact cpiece c f7 1 2 inb_S2x4x128x128_S1x1x128x64_1_2_0_0 inb_S2x4x128x128_S1x1x128x1_1_2_0_64 inb_S2x128x256_S1x128x64_1_0_128
  · exact cpiece c f7 1 1 inb_S2x4x128x128_S1x1x128x64_1_1_0_0 inb_S2x4x128x128_S1x1x128x1_1_1_0_64 inb_S2x128x256_S1x128x64_1_0_64
  · exact cpiece c f7 1 0 inb_S2x4x128x128_S1x1x128x64_1_0_0_0 inb_S2x4x128x128_S1x1x128x1_1_0_0_64 inb_S2x128x256_S1x128x64_1_0_0
  · exact cpiece c f7 0 3 inb_S2x4x128x128_S1x1x128x64_0_3_0_0 inb_S2x4x128x128_S1x1x128x1_0_3_0_64 inb_S2x128x256_S1x128x64_0_0_192
  · exact cpiece c f7 0 2 inb_S2x4x128x128_S1x1x128x64_0_2_0_0 inb_S2x4x128x128_S1x1x128x1_0_2_0_64 inb_S2x128x256_S1x128x64_0_0_128
  · exact cpiece c f7 0 1 inb_S2x4x128x128_S1x1x128x64_0_1_0_0 inb_S2x4x128x128_S1x1x128x1_0_1_0_64 inb_S2x128x256_S1x128x64_0_0_64
  · exact cpiece c f7 0 0 inb_S2x4x128x128_S1x1x128x64_0_0_0_0 inb_S2x4x128x128_S1x1x128x1_0_0_0_64 inb_S2x128x256_S1x128x64_0_0_0

theorem ctx_covers (z : S2x128x256.Idx) : ∃ p ∈ finRun.sl.H10_8 c f7, z ∈ p.1.set := by
  idx_vars z
  obtain ⟨h, d, hz⟩ : ∃ (h : Fin 4) (d : Fin 64), z2 = hcol h d :=
    ⟨⟨z2.val / 64, by omega⟩, ⟨z2.val % 64, by omega⟩, Fin.ext (by show z2.val = 64 * (z2.val / 64) + z2.val % 64; omega)⟩
  have at_ : ∀ n (hn : n < 8) {w}, ((finRun.sl.H10_8 c f7)[n]'hn).1.toLoadRect.idx w = ix3 z0 z1 z2 →
      ∃ p ∈ finRun.sl.H10_8 c f7, ix3 z0 z1 z2 ∈ p.1.set :=
    fun n hn {_} e => ⟨_, List.getElem_mem hn, mem_of_idx e⟩
  rcases (show z0 = 0 ∨ z0 = 1 by omega) with rfl | rfl <;>
    rcases (show h = 0 ∨ h = 1 ∨ h = 2 ∨ h = 3 by omega) with rfl | rfl | rfl | rfl
  · exact at_ 7 (by decide) ((idx_hz 0 0 inb_S2x128x256_S1x128x64_0_0_0 0 z1 d).trans (congrArg (ix3 _ z1) hz.symm))
  · exact at_ 6 (by decide) ((idx_hz 0 1 inb_S2x128x256_S1x128x64_0_0_64 0 z1 d).trans (congrArg (ix3 _ z1) hz.symm))
  · exact at_ 5 (by decide) ((idx_hz 0 2 inb_S2x128x256_S1x128x64_0_0_128 0 z1 d).trans (congrArg (ix3 _ z1) hz.symm))
  · exact at_ 4 (by decide) ((idx_hz 0 3 inb_S2x128x256_S1x128x64_0_0_192 0 z1 d).trans (congrArg (ix3 _ z1) hz.symm))
  · exact at_ 3 (by decide) ((idx_hz 1 0 inb_S2x128x256_S1x128x64_1_0_0 0 z1 d).trans (congrArg (ix3 _ z1) hz.symm))
  · exact at_ 2 (by decide) ((idx_hz 1 1 inb_S2x128x256_S1x128x64_1_0_64 0 z1 d).trans (congrArg (ix3 _ z1) hz.symm))
  · exact at_ 1 (by decide) ((idx_hz 1 2 inb_S2x128x256_S1x128x64_1_0_128 0 z1 d).trans (congrArg (ix3 _ z1) hz.symm))
  · exact at_ 0 (by decide) ((idx_hz 1 3 inb_S2x128x256_S1x128x64_1_0_192 0 z1 d).trans (congrArg (ix3 _ z1) hz.symm))

theorem ctx_read (b : Fin 2) (inb) (i : Fin 128) (n : Fin 256) :
    ctxM.view.readCov (finRun.sl.H10_8 c f7) (Rect.unit (s := S2x128x256) ![b.val, 0, 0] S1x128x256.size inb).toLoadRect (ix3 0 i n)
      = ctxv (facc c f7) b i n := by
  rw [View.readCov_eq_canon']
  have h1 := ctx_pieces c f7
  have h2 := ctx_covers c f7
  generalize finRun.sl.H10_8 c f7 = L at h1 h2 ⊢
  exact (congrArg (View.canon (Val := Elt Ideal) L) (idx_q b inb 0 i n)).trans ((canon_of (Ctx c f7) L h1 h2 (ix3 b i n)).trans rfl)

/-- The result as one array. -/
def Out (z : S2x128x512.Idx) : EReal := ∑ n : Fin 256, ctxv (facc c f7) (z 0) (z 1) n * fwo c f4 (ix2 n (z 2))

theorem out_apply (x : FVec Ideal S1x128x256 .f32) (w : FVec Ideal S256x512 .bf16) (z : Fin 1) (i : Fin 128) (n : Fin 512) :
    k0_pay61 (F := Ideal) x w (ix3 z i n) = ∑ e, x (ix3 0 i e) * w (ix2 e n) := by
  pointwise [k0_pay61]

theorem idx_out (b : Fin 2) (inb) (z : Fin 1) (i : Fin 128) (n : Fin 512) :
    (Rect.unit (s := S2x128x512) ![b.val, 0, 0] S1x128x512.size inb).toLoadRect.idx (ix3 z i n) = ix3 b i n := by
  pointwise

theorem rpiece (b : Fin 2) (inb) (inb') (inb'') (y : S1x128x512.Idx) :
    k0_pay61 (ctxM.view.readCov (finRun.sl.H10_8 c f7) (Rect.unit (s := S2x128x256) ![b.val, 0, 0] S1x128x256.size inb).toLoadRect)
        (View.readAt (Elt Ideal) woM.view (Rect.unit (s := S256x512) ![0, 0] S256x512.size inb').toLoadRect f4) y
      = Out c f7 f4 ((Rect.unit (s := S2x128x512) ![b.val, 0, 0] S1x128x512.size inb'').toLoadRect.idx y) := by
  idx_vars y
  refine Eq.trans ?_ (congrArg (Out c f7 f4) (idx_out b inb'' y0 y1 y2)).symm
  exact (out_apply ..).trans (Finset.sum_congr rfl fun e _ => congrArg₂ (· * ·) (ctx_read c f7 b inb y1 e) (readAt_wo c f4 inb' e y2))

theorem out_pieces : ∀ p ∈ finRun.sl.H5_2 c f7 f4, ∀ y, p.2 y = Out c f7 f4 (p.1.toLoadRect.idx y) := by
  intro p hp
  unfold finRun.sl.H5_2 at hp
  simp only [List.mem_cons, List.not_mem_nil, or_false] at hp
  rcases hp with rfl | rfl
  · exact rpiece c f7 f4 1 inb_S2x128x256_S1x128x256_1_0_0 inb_S256x512_S256x512_0_0 inb_S2x128x512_S1x128x512_1_0_0
  · exact rpiece c f7 f4 0 inb_S2x128x256_S1x128x256_0_0_0 inb_S256x512_S256x512_0_0 inb_S2x128x512_S1x128x512_0_0_0

theorem out_covers (z : S2x128x512.Idx) : ∃ p ∈ finRun.sl.H5_2 c f7 f4, z ∈ p.1.set := by
  idx_vars z
  rcases (show z0 = 0 ∨ z0 = 1 by omega) with rfl | rfl
  · exact ⟨_, List.mem_cons_of_mem _ List.mem_cons_self, mem_of_idx (idx_out 0 inb_S2x128x512_S1x128x512_0_0_0 0 z1 z2)⟩
  · exact ⟨_, List.mem_cons_self, mem_of_idx (idx_out 1 inb_S2x128x512_S1x128x512_1_0_0 0 z1 z2)⟩

theorem fin_writes : (finRun c f7 f4).1 = oM.view.writes (Elt Ideal) oM.view.junk (finRun.sl.H5_2 c f7 f4) := by
  delta finRun
  dsimp only

/-- What the last stretch leaves in the output's buffer. -/
theorem fin_apply (z : S2x128x512.Idx) : oM.view.read (Elt Ideal) (finRun c f7 f4).1 z = Out c f7 f4 z := by
  rw [fin_writes]
  have h1 := out_pieces c f7 f4
  have h2 := out_covers c f7 f4
  generalize finRun.sl.H5_2 c f7 f4 = L at h1 h2 ⊢
  exact (View.read_writes_junk_apply_eq_canon (Val := Elt Ideal) oM.view z L).trans (canon_of (Out c f7 f4) L h1 h2 z)

end Fin_

end Cert.Value

end
-- ==== Proof.Value.Math.lean ====
/-
  The arithmetic of the extended reals behind the softmax: subtracting the largest kept score and normalising each weight
  gives the same weighted mean as dividing one sum by the other.
-/
module

public import Idealize.ShloMosaic.Lib.Pointwise
public import Idealize.ShloMosaic.PureOps.Ideal.Laws

@[expose] public section

noncomputable section

namespace Cert.Value

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_of_abs_lt {x : EReal} (h : max x (-x) < ⊤) : IsReal x := by
  obtain ⟨h1, h2⟩ := max_lt_iff.mp h
  refine ⟨x.toReal, (EReal.coe_toReal h1.ne ?_).symm⟩
  rintro rfl
  exact h2.ne EReal.neg_bot

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

section Softmax

variable {n : ℕ} (keep : Fin n → Bool) (s : Fin n → ℝ)

/-- The masked score. -/
def msc (j : Fin n) : EReal := if keep j then (s j : EReal) else ⊥

/-- The largest masked score. -/
def mmax : EReal := Finset.univ.fold max ⊥ (msc keep s)

/-- The weight of a key. -/
def wgt (j : Fin n) : ℝ := if keep j then Real.exp (s j) else 0

theorem mmax_real (hk : ∃ j, keep j) : ∃ r : ℝ, mmax keep s = (r : EReal) := by
  have h : mmax keep s = Finset.univ.sup (msc keep s) := rfl
  obtain ⟨j, hj⟩ := hk
  have hlt : mmax keep s < ⊤ := by
    rw [h, Finset.sup_lt_iff (by exact bot_lt_top)]
    intro k _
    unfold msc
    split
    · exact EReal.coe_lt_top _
    · exact bot_lt_top
  have hgt : ⊥ < mmax keep s := by
    rw [h]
    refine lt_of_lt_of_le ?_ (Finset.le_sup (f := msc keep s) (Finset.mem_univ j))
    unfold msc
    rw [if_pos hj]
    exact EReal.bot_lt_coe _
  exact ⟨(mmax keep s).toReal, (EReal.coe_toReal hlt.ne hgt.ne').symm⟩

theorem wgt_nonneg (j : Fin n) : 0 ≤ wgt keep s j := by
  unfold wgt
  split
  · exact (Real.exp_pos _).le
  · exact le_rfl

theorem wgt_sum_pos (hk : ∃ j, keep j) : 0 < ∑ j, wgt keep s j := by
  obtain ⟨j, hj⟩ := hk
  refine Finset.sum_pos' (fun i _ => wgt_nonneg keep s i) ⟨j, Finset.mem_univ j, ?_⟩
  unfold wgt
  rw [if_pos hj]
  exact Real.exp_pos _

theorem exp_wgt (j : Fin n) : (if keep j then Ideal.exp (s j : EReal) else 0) = ((wgt keep s j : ℝ) : EReal) := by
  unfold wgt
  split
  · rfl
  · rfl

theorem div_coe (x : EReal) (r : ℝ) (hr : r ≠ 0) : Ideal.div x (r : EReal) = x * ((r⁻¹ : ℝ) : EReal) := by
  unfold Ideal.div
  rw [if_neg (by exact_mod_cast hr), EReal.coe_inv]

/-- The two forms of the weighted mean. -/
theorem softmax_eq (hk : ∃ j, keep j) (V : Fin n → EReal) :
    ∑ j, V j * Ideal.div (Ideal.exp (msc keep s j - mmax keep s)) (∑ j, Ideal.exp (msc keep s j - mmax keep s))
      = Ideal.div (∑ j, (if keep j then Ideal.exp (s j : EReal) else 0) * V j) (∑ j, if keep j then Ideal.exp (s j : EReal) else 0) := by
  obtain ⟨M, hM⟩ := mmax_real keep s hk
  have he : ∀ j, Ideal.exp (msc keep s j - mmax keep s) = ((wgt keep s j * Real.exp (-M) : ℝ) : EReal) := by
    intro j
    rw [hM]
    unfold msc wgt
    split
    · rw [← EReal.coe_sub]
      show ((Real.exp (s j - M) : ℝ) : EReal) = _
      rw [sub_eq_add_neg, Real.exp_add]
    · rw [EReal.bot_sub, zero_mul]
      rfl
  have hL := wgt_sum_pos keep s hk
  have hE := Real.exp_pos (-M)
  simp only [he, exp_wgt]
  rw [← coe_sum, ← coe_sum, ← Finset.sum_mul, div_coe _ _ hL.ne', sum_mul_coe _ _ _ (inv_nonneg.mpr hL.le)]
  refine Finset.sum_congr rfl fun j _ => ?_
  rw [div_coe _ _ (mul_pos hL hE).ne', ← EReal.coe_mul, mul_comm ((wgt keep s j : ℝ) : EReal) (V j), mul_assoc (V j), ← EReal.coe_mul]
  congr 2
  field_simp

end Softmax

end Cert.Value

end
-- ==== Proof.Value.Reference.lean ====
/-
  The reference's result read at an index: the softmax of the masked scores, weighing the values, times the output weights.
-/
module

public import proofs.«01_k».proof.Proof.Gen.ReferenceIdeal.Run
public import proofs.«01_k».proof.Proof.Value.Math
public import proofs.«01_k».proof.Proof.Value.Head
public import Idealize.ShloMosaic.Lib.Routing.OpsOrder
public import Idealize.ShloMosaic.Lib.Tactic.CleanTypes

@[expose] public section

set_option maxRecDepth 16384

noncomputable section

namespace Cert.Value.Ref

open Cert.ReferenceIdeal Cert.ReferenceIdeal.Gen
open Idealize.ShloMosaic
open Idealize.ShloMosaic.TcCoe
open Idealize.SL.Sem

/-- The rows' blocks. -/
def rowBlk : IVec S128x1 32 :=
  broadcastInDim S128x1 ![0] bcast_S128_S128x1_0 (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32)))))

/-- The keys' blocks. -/
def keyBlk : IVec S1x4096 32 :=
  broadcastInDim S1x4096 ![1] bcast_S4096_S1x4096_1 (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

/-- The divisor four. -/
def four : IVec S_ 32 := select (cmpi .eq (id (constantI S_ 32 4#32)) (constantI S_ 32 0#32)) (constantI S_ 32 1#32) (id (constantI S_ 32 4#32))

/-- The rows' blocks modulo four, and the keys'. -/
def rmod : IVec S128x1 32 :=
  select (andi (cmpi .ne (cmpi .slt (Host.remsi rowBlk (broadcastInDim S128x1 ![] bcast_S_S128x1 four)) (broadcastInDim S128x1 ![] bcast_S_S128x1 (constantI S_ 32 0#32))) (broadcastInDim S128x1 ![] bcast_S_S128x1 (cmpi .slt four (constantI S_ 32 0#32)))) (cmpi .ne (Host.remsi rowBlk (broadcastInDim S128x1 ![] bcast_S_S128x1 four)) (broadcastInDim S128x1 ![] bcast_S_S128x1 (constantI S_ 32 0#32)))) (addi (Host.remsi rowBlk (broadcastInDim S128x1 ![] bcast_S_S128x1 four)) (broadcastInDim S128x1 ![] bcast_S_S128x1 four)) (Host.remsi rowBlk (broadcastInDim S128x1 ![] bcast_S_S128x1 four))
def kmod : IVec S1x4096 32 :=
  select (andi (cmpi .ne (cmpi .slt (Host.remsi keyBlk (broadcastInDim S1x4096 ![] bcast_S_S1x4096 four)) (broadcastInDim S1x4096 ![] bcast_S_S1x4096 (constantI S_ 32 0#32))) (broadcastInDim S1x4096 ![] bcast_S_S1x4096 (cmpi .slt four (constantI S_ 32 0#32)))) (cmpi .ne (Host.remsi keyBlk (broadcastInDim S1x4096 ![] bcast_S_S1x4096 four)) (broadcastInDim S1x4096 ![] bcast_S_S1x4096 (constantI S_ 32 0#32)))) (addi (Host.remsi keyBlk (broadcastInDim S1x4096 ![] bcast_S_S1x4096 four)) (broadcastInDim S1x4096 ![] bcast_S_S1x4096 four)) (Host.remsi keyBlk (broadcastInDim S1x4096 ![] bcast_S_S1x4096 four))

/-- The mask. -/
def mask : IVec S128x4096 1 :=
  ori (cmpi .eq (broadcastInDim S128x4096 ![0, 1] bcast_S128x1_S128x4096_0_1 rowBlk) (broadcastInDim S128x4096 ![0, 1] bcast_S1x4096_S128x4096_0_1 keyBlk)) (cmpi .eq (broadcastInDim S128x4096 ![0, 1] bcast_S1x4096_S128x4096_0_1 kmod) (broadcastInDim S128x4096 ![0, 1] bcast_S128x1_S128x4096_0_1 rmod))

/-- The rows with a kept key. -/
def rowKeep : IVec S1x1x128x1 1 :=
  broadcastInDim S1x1x128x1 ![2] bcast_S128_S1x1x128x1_2 (Host.reduce IntOp.ori mask (constantI S_ 1 0#1) reducesTo_S128x4096_S128_d1 h_S_)

section Vals

variable (x : FVec Ideal S2x128x512 .bf16) (wq : FVec Ideal S512x256 .bf16) (k v : FVec Ideal S2x4096x4x64 .bf16) (wo : FVec Ideal S256x512 .bf16)

/-- The masked scores. -/
def scores : FVec Ideal S2x4x128x4096 .f32 :=
  select (broadcastInDim S2x4x128x4096 ![0, 1, 2, 3] bcast_S1x1x128x4096_S2x4x128x4096_0_1_2_3 (broadcastInDim S1x1x128x4096 ![2, 3] bcast_S128x4096_S1x1x128x4096_2_3 mask)) (mulf (extf .f32 (truncf .bf16 (Host.dotGeneral dot_S2x128x4x64_S2x4096x4x64_S2x4x128x4096_3_3_1_1_02_02 none (shapeCast _ (truncf .bf16 (Host.dotGeneral dot_S2x128x512_S512x256_S2x128x256_2_0_01_1_n_n none x wq) bitsLt_bf16_f32) shapeCasts_S2x128x256_S2x128x4x64) k) bitsLt_bf16_f32) bitsLt_bf16_f32) (broadcastInDim S2x4x128x4096 ![] bcast_S_S2x4x128x4096 (constant S_ .f32 0x3E000000#32))) (broadcastInDim S2x4x128x4096 ![] bcast_S_S2x4x128x4096 (id (constant S_ .f32 0xFF800000#32)))

/-- The exponentials of the scores less the row's largest. -/
def exps : FVec Ideal S2x4x128x4096 .f32 :=
  Host.exp (subf (scores x wq k) (broadcastInDim S2x4x128x4096 ![0, 1, 2, 3] bcast_S2x4x128x1_S2x4x128x4096_0_1_2_3 (broadcastInDim S2x4x128x1 ![0, 1, 2] bcast_S2x4x128_S2x4x128x1_0_1_2 (Host.reduce FloatOps.maximumf (scores x wq k) (constant S_ .f32 0xFF800000#32) reducesTo_S2x4x128x4096_S2x4x128_d3 h_S_))))

/-- The normalised weights. -/
def probs : FVec Ideal S2x4x128x4096 .f32 :=
  select (broadcastInDim S2x4x128x4096 ![0, 1, 2, 3] bcast_S1x1x128x1_S2x4x128x4096_0_1_2_3 rowKeep) (Host.divf (exps x wq k) (broadcastInDim S2x4x128x4096 ![0, 1, 2, 3] bcast_S2x4x128x1_S2x4x128x4096_0_1_2_3 (select (broadcastInDim S2x4x128x1 ![0, 1, 2, 3] bcast_S1x1x128x1_S2x4x128x1_0_1_2_3 rowKeep) (broadcastInDim S2x4x128x1 ![0, 1, 2] bcast_S2x4x128_S2x4x128x1_0_1_2 (Host.reduceAdd (exps x wq k) (constant S_ .f32 0x00000000#32) reducesTo_S2x4x128x4096_S2x4x128_d3 h_S_)) (broadcastInDim S2x4x128x1 ![] bcast_S_S2x4x128x1 (id (constant S_ .f32 0x3F800000#32)))))) (broadcastInDim S2x4x128x4096 ![] bcast_S_S2x4x128x4096 (id (constant S_ .f32 0x00000000#32)))

/-- The attention output. -/
def ctx : FVec Ideal S2x128x256 .f32 :=
  shapeCast _ (transpose S2x128x4x64 [0, 3, 1, 2] (Host.dotGeneral dot_S2x4096x4x64_S2x4x128x4096_S2x4x64x128_1_3_3_2_02_01 none (extf .f32 v bitsLt_bf16_f32) (probs x wq k)) transposes_S2x4x64x128_S2x128x4x64_0_3_1_2) shapeCasts_S2x128x4x64_S2x128x256

/-- The result. -/
def out : FVec Ideal S2x128x512 .f32 :=
  Host.dotGeneral dot_S2x128x256_S256x512_S2x128x512_2_0_01_1_n_n none (ctx x wq k v) (extf .f32 wo bitsLt_bf16_f32)

end Vals

variable (m : (ℓ : Loc nD τ sig) → Buf (Elt Ideal) ℓ) (c : Dev nD)

/-- The reference's result is `out` of its arguments. -/
theorem res_eq : Cert.ReferenceIdeal.Value.res_out0 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_out0 Cert.ReferenceIdeal.Value.res_main_v44
  unfold out ctx probs exps scores rowKeep mask rmod kmod four rowBlk keyBlk
  rfl

theorem rowBlk_eq : ∀ i : Fin 128, rowBlk (ix2 i 0) = BitVec.ofNat 32 (i.val / 64) := by decide +kernel

theorem keyBlk_eq : ∀ j : Fin 4096, keyBlk (ix2 0 j) = BitVec.ofNat 32 (j.val / 64) := by decide +kernel

theorem mask_eq (i : Fin 128) (j : Fin 4096) : mask (ix2 i j) = BitVec.ofBool (keeps (i.val / 64) (j.val / 64)) := by
  have hi := rowBlk_eq i
  have hj := keyBlk_eq j
  unfold mask rmod kmod four
  pointwise
  rw [hi, hj]
  have e : (id (constantI S_ 32 4#32) ix0 : BitVec 32) = 4#32 := rfl
  rw [e]
  clear e hi hj
  obtain ⟨a, ha⟩ : ∃ a : Fin 2, a.val = i.val / 64 := ⟨⟨i.val / 64, by omega⟩, rfl⟩
  obtain ⟨b, hb⟩ : ∃ b : Fin 64, b.val = j.val / 64 := ⟨⟨j.val / 64, by omega⟩, rfl⟩
  rw [← ha, ← hb]
  clear ha hb
  revert a b
  decide +kernel

theorem rowKeep_eq (i : Fin 128) : rowKeep (ix4 0 0 i 0) = 1#1 := by
  unfold rowKeep
  pointwise
  rw [Routing.fold_ori]
  refine ⟨⟨64 * (i.val / 64), by omega⟩, Finset.mem_univ _, ?_⟩
  rw [mask_eq, show (64 * (i.val / 64)) / 64 = i.val / 64 by omega]
  simp [keeps]

theorem ninf : Ideal.ofBits .f32 0xFF800000#32 = (⊥ : EReal) := by simp [Ideal.ofBits, Ideal.ieee]

variable (x : FVec Ideal S2x128x512 .bf16) (wq : FVec Ideal S512x256 .bf16) (k v : FVec Ideal S2x4096x4x64 .bf16) (wo : FVec Ideal S256x512 .bf16)

theorem scores_eq (b : Fin 2) (h : Fin 4) (i : Fin 128) (j : Fin 4096) : scores x wq k (ix4 b h i j)
    = if keeps (i.val / 64) (j.val / 64) then Sc x wq b h i (fun d => k (ix4 b j h d)) * c8 else ⊥ := by
  unfold scores
  pointwise
  rw [mask_eq, Scalar.select_ofBool]
  refine if_congr Iff.rfl (congrArg (· * c8) (Finset.sum_congr rfl fun d _ => ?_)) ninf
  refine congrArg (· * k (ix4 b j h d)) ?_
  unfold Qv
  refine Finset.sum_congr rfl fun e _ => ?_
  congr 3
  exact Fin.ext (by show h.val * 64 + d.val = 64 * h.val + d.val; omega)

theorem exps_eq (b : Fin 2) (h : Fin 4) (i : Fin 128) (j : Fin 4096) : exps x wq k (ix4 b h i j)
    = Ideal.exp (scores x wq k (ix4 b h i j) - Finset.univ.fold max ⊥ fun j => scores x wq k (ix4 b h i j)) := by
  unfold exps
  pointwise
  rw [ninf]

theorem probs_eq (b : Fin 2) (h : Fin 4) (i : Fin 128) (j : Fin 4096) : probs x wq k (ix4 b h i j)
    = Ideal.div (exps x wq k (ix4 b h i j)) (∑ j, exps x wq k (ix4 b h i j)) := by
  unfold probs
  pointwise
  rw [rowKeep_eq]
  rfl

theorem ctx_eq (b : Fin 2) (i : Fin 128) (n : Fin 256) : ctx x wq k v (ix3 b i n)
    = ∑ j : Fin 4096, v (ix4 b j ⟨n.val / 64, by omega⟩ ⟨n.val % 64, by omega⟩) * probs x wq k (ix4 b ⟨n.val / 64, by omega⟩ i j) := by
  unfold ctx
  pointwise

theorem out_eq (b : Fin 2) (i : Fin 128) (n : Fin 512) : out x wq k v wo (ix3 b i n)
    = ∑ q : Fin 256, ctx x wq k v (ix3 b i q) * wo (ix2 q n) := by
  unfold out
  pointwise

end Cert.Value.Ref

end
-- ==== Proof.Value.Equal.lean ====
/-
  The kernel's attention output is the reference's: the sums over the devices and their keys are sums over all keys, and the
  quotient of the two sums is the softmax of the masked scores weighing the values.
-/
module

public import proofs.«01_k».proof.Proof.Value.Tail
public import proofs.«01_k».proof.Proof.Value.Reference

@[expose] public section

set_option maxRecDepth 16384

noncomputable section

namespace Cert.Value

open Cert.KernelIdeal
open Idealize.ShloMosaic

/-- Key `t` of device `d` among all keys. -/
abbrev key (d : Fin 32) (t : Fin 128) : Fin 4096 := ⟨128 * d.val + t.val, by omega⟩

theorem sum_key (f : Fin 4096 → EReal) : ∑ d : Fin 32, ∑ t : Fin 128, f (key d t) = ∑ j, f j := by
  rw [← Fintype.sum_prod_type']
  refine Fintype.sum_equiv (finProdFinEquiv (m := 32) (n := 128)) _ _ fun p => congrArg f (Fin.ext ?_)
  show 128 * p.1.val + p.2.val = p.2.val + 128 * p.1.val
  omega

theorem c8_real : IsReal c8 := by
  show IsReal (Ideal.ieee 8 23 (0x3E000000#32))
  unfold Ideal.ieee
  rw [if_neg (by decide), if_neg (by decide)]
  exact ⟨_, rfl⟩

section Attention

variable (x : S2x128x512.Idx → EReal) (wq : S512x256.Idx → EReal) (k v : Cert.ReferenceIdeal.S2x4096x4x64.Idx → EReal)
  (kd vd : Fin 32 → S2x128x4x64.Idx → EReal)

theorem Qv_real (hx : ∀ y, IsReal (x y)) (hwq : ∀ y, IsReal (wq y)) (b : Fin 2) (i : Fin 128) (n : Fin 256) : IsReal (Qv x wq b i n) :=
  IsReal.sum _ _ fun _ _ => (hx _).mul (hwq _)

theorem Sc_real (hx : ∀ y, IsReal (x y)) (hwq : ∀ y, IsReal (wq y)) (b : Fin 2) (h : Fin 4) (i : Fin 128) (kk : Fin 64 → EReal)
    (hk : ∀ d, IsReal (kk d)) : IsReal (Sc x wq b h i kk) :=
  IsReal.sum _ _ fun d _ => (Qv_real x wq hx hwq b i (hcol h d)).mul (hk d)

/-- The accumulator after the exchanges. -/
def Acc (z : S2x4x128x128.Idx) : EReal := ∑ d : Fin 32, part x wq (kd d) (vd d) d (z 0) (z 1) (z 2) (z 3)

/-- The weight of a key among all keys. -/
def Wa (b : Fin 2) (h : Fin 4) (i : Fin 128) (j : Fin 4096) : EReal :=
  if keeps (i.val / 64) (j.val / 64) then Ideal.exp (Sc x wq b h i (fun d => k (ix4 b j h d)) * c8) else 0

variable (hkd : ∀ d b t h e, kd d (ix4 b t h e) = k (ix4 b (key d t) h e)) (hvd : ∀ d b t h e, vd d (ix4 b t h e) = v (ix4 b (key d t) h e))

include hkd in
theorem Wt_eq (d : Fin 32) (b : Fin 2) (h : Fin 4) (i t : Fin 128) : Wt x wq (kd d) d b h i t = Wa x wq k b h i (key d t) := by
  unfold Wt Wa
  have e : 2 * d.val + t.val / 64 = (128 * d.val + t.val) / 64 := by omega
  show (if keeps (i.val / 64) (2 * d.val + t.val / 64) then _ else _) = _
  rw [e, show (fun e => kd d (ix4 b t h e)) = fun e => k (ix4 b (key d t) h e) from funext fun e => hkd d b t h e]

include hkd hvd in
theorem Acc_o (b : Fin 2) (h : Fin 4) (i : Fin 128) (j : Fin 64) :
    Acc x wq kd vd (ix4 b h i ⟨j.val, by omega⟩) = ∑ q, Wa x wq k b h i q * v (ix4 b q h j) := by
  refine Eq.trans (Finset.sum_congr rfl fun d _ => part_o x wq (kd d) (vd d) d b h i j) ?_
  rw [← sum_key]
  refine Finset.sum_congr rfl fun d _ => Finset.sum_congr rfl fun t _ => ?_
  rw [Wt_eq x wq k kd hkd, hvd]

include hkd in
theorem Acc_l (b : Fin 2) (h : Fin 4) (i : Fin 128) : Acc x wq kd vd (ix4 b h i 64) = ∑ q, Wa x wq k b h i q := by
  refine Eq.trans (Finset.sum_congr rfl fun d _ => part_l x wq (kd d) (vd d) d b h i 0) ?_
  rw [← sum_key]
  exact Finset.sum_congr rfl fun d _ => Finset.sum_congr rfl fun t _ => Wt_eq x wq k kd hkd d b h i t

include hkd hvd in
/-- The kernel's attention output is the reference's. -/
theorem ctx_eq (hx : ∀ y, IsReal (x y)) (hwq : ∀ y, IsReal (wq y)) (hk : ∀ y, IsReal (k y)) (b : Fin 2) (i : Fin 128) (n : Fin 256) :
    ctxv (Acc x wq kd vd) b i n = Ref.ctx x wq k v (ix3 b i n) := by
  rw [Ref.ctx_eq]
  unfold ctxv
  generalize hh : (⟨n.val / 64, by omega⟩ : Fin 4) = h
  generalize he : (⟨n.val % 64, by omega⟩ : Fin 64) = e
  have he' : (⟨n.val % 64, by omega⟩ : Fin 128) = ⟨e.val, by omega⟩ := Fin.ext (congrArg (fun q : Fin 64 => q.val) he)
  rw [he', Acc_o x wq k v kd vd hkd hvd, Acc_l x wq k kd vd hkd]
  choose s hs using fun j : Fin 4096 => (Sc_real x wq hx hwq b h i (fun d => k (ix4 b j h d)) (fun d => hk _)).mul c8_real
  have hkeep : ∃ j : Fin 4096, keeps (i.val / 64) (j.val / 64) = true :=
    ⟨⟨64 * (i.val / 64), by omega⟩, by
      show keeps (i.val / 64) (64 * (i.val / 64) / 64) = true
      rw [show 64 * (i.val / 64) / 64 = i.val / 64 by omega]
      simp [keeps]⟩
  have hsc : ∀ j, Ref.scores x wq k (ix4 b h i j) = msc (fun j : Fin 4096 => keeps (i.val / 64) (j.val / 64)) s j := by
    intro j
    rw [Ref.scores_eq, hs]
    rfl
  have hex : ∀ j, Ref.exps x wq k (ix4 b h i j)
      = Ideal.exp (msc (fun j : Fin 4096 => keeps (i.val / 64) (j.val / 64)) s j - mmax (fun j : Fin 4096 => keeps (i.val / 64) (j.val / 64)) s) := by
    intro j
    rw [Ref.exps_eq]
    simp only [hsc]
    rfl
  have hw : ∀ j, Wa x wq k b h i j = if keeps (i.val / 64) (j.val / 64) then Ideal.exp (s j : EReal) else 0 := by
    intro j
    unfold Wa
    rw [hs]
  simp only [Ref.probs_eq, hex, hw]
  exact (softmax_eq (fun j : Fin 4096 => keeps (i.val / 64) (j.val / 64)) s hkeep (fun j => v (ix4 b j h e))).symm

end Attention

end Cert.Value

end
-- ==== Proof.Value.Algebraic.lean ====
/-
  The two idealized programs end with the same result: the kernel's run on the devices' blocks of the keys and values, and the
  reference's on the whole arrays.
-/
module

public import proofs.«01_k».proof.Defs
public import proofs.«01_k».proof.Proof.KernelIdealRun.Arrays
public import proofs.«01_k».proof.Proof.Value.Equal
public import proofs.«01_k».proof.Proof.Gen.Pre_finite_KernelIdeal
public import Idealize.ShloMosaic.Lib.ReduceAll
public import Idealize.ShloMosaic.Lib.Layout

@[expose] public section

set_option maxRecDepth 16384

noncomputable section

namespace Cert.Value

open Idealize.ShloMosaic
open Idealize.ShloMosaic.TcCoe
open Idealize.SL.Sem

/-! ## The precondition -/

theorem pinf : Ideal.ofBits .f32 0x7F800000#32 = (⊤ : EReal) := by simp [Ideal.ofBits, Ideal.ieee]

theorem real_of_cmp {a : EReal} (h : Ideal.cmp .olt (max a (-a)) (Ideal.ofBits .f32 0x7F800000#32) = 1#1) : IsReal a := by
  rw [pinf] at h
  refine isReal_of_abs_lt ?_
  by_contra hc
  have e : Ideal.cmp .olt (max a (-a)) (⊤ : EReal) = 0#1 := congrArg BitVec.ofBool (decide_eq_false hc)
  rw [e] at h
  exact absurd h (by decide)

section Pre

open Cert.Pre_finite_KernelIdeal

variable (a0 : FVec Ideal S2x128x512 .bf16) (a1 : FVec Ideal S512x256 .bf16) (a2 a3 : FVec Ideal S2x128x4x64 .bf16) (a4 : FVec Ideal S256x512 .bf16)

/-- Where the precondition holds the rows, the query weights and the keys are real. -/
theorem real_of_pre (h : fn (F := Ideal) a0 a1 a2 a3 a4 = fun _ => 1#1) :
    (∀ y, IsReal (a0 y)) ∧ (∀ y, IsReal (a1 y)) ∧ ∀ y, IsReal (a2 y) := by
  have h := congrFun h ix0
  unfold fn at h
  dsimp only at h
  obtain ⟨h01, h2⟩ := IntOp.andi_eq_one.mp h
  obtain ⟨h0, h1⟩ := IntOp.andi_eq_one.mp h01
  exact ⟨fun y => real_of_cmp (Host.reduce_andi_all _ _ _ _ _ h0 y), fun y => real_of_cmp (Host.reduce_andi_all _ _ _ _ _ h1 y),
    fun y => real_of_cmp (Host.reduce_andi_all _ _ _ _ _ h2 y)⟩

end Pre

/-! ## The blocks -/

/-- Device `d`'s block of an array of keys or values. -/
theorem block_key (w : Cert.ReferenceIdeal.S2x4096x4x64.Idx → EReal) (d : Fin 32) (b : Fin 2) (t : Fin 128) (h : Fin 4) (e : Fin 64) :
    Layout.block ⟨4, ![2, 128, 4, 64]⟩ ⟨4, ![2, 4096, 4, 64]⟩ 1 32 d w (by decide) (ix4 b t h e) = w (ix4 b (key d t) h e) := by
  rw [Layout.block_apply]
  refine congrArg w (funext fun a => Fin.ext ?_)
  rw [Layout.Tiles.idx_val]
  fin_cases a
  · rfl
  · show d.val * 128 + t.val = 128 * d.val + t.val
    omega
  · rfl
  · rfl

/-- Every key is on some device. -/
theorem block_real (w : Cert.ReferenceIdeal.S2x4096x4x64.Idx → EReal)
    (h : ∀ d y, IsReal (Layout.block ⟨4, ![2, 128, 4, 64]⟩ ⟨4, ![2, 4096, 4, 64]⟩ 1 32 d w (by decide) y)) (y) : IsReal (w y) := by
  idx_vars y
  have := h ⟨y1.val / 128, by omega⟩ (ix4 y0 ⟨y1.val % 128, by omega⟩ y2 y3)
  rw [block_key] at this
  have e : key ⟨y1.val / 128, by omega⟩ ⟨y1.val % 128, by omega⟩ = y1 := Fin.ext (by show 128 * (y1.val / 128) + y1.val % 128 = y1.val; omega)
  rw [e] at this
  exact this

/-! ## The result -/

section Result

open Cert.KernelIdeal Cert.KernelIdeal.Gen Cert.KernelIdealRun

variable (m : (ℓ : Loc nD τ sig) → Buf (Elt Ideal) ℓ) (ρ : Dev nD → PrngReg)
variable (x : S2x128x512.Idx → EReal) (wq : S512x256.Idx → EReal) (k v : Cert.ReferenceIdeal.S2x4096x4x64.Idx → EReal)
  (wo : S256x512.Idx → EReal)

/-- The result of a device, where the devices hold the whole rows and weights and their blocks of the keys and values. -/
theorem outAt_out (h0 : ∀ d, fx d (xin m ρ d) = x) (h1 : ∀ d, fwq d (wqin m ρ d) = wq)
    (h2 : ∀ d b t h e, fk d (kin m ρ d) (ix4 b t h e) = k (ix4 b (key d t) h e))
    (h3 : ∀ d b t h e, fv d (vin m ρ d) (ix4 b t h e) = v (ix4 b (key d t) h e))
    (h4 : ∀ d, fwo d (woin m ρ d) = wo)
    (hx : ∀ y, IsReal (x y)) (hwq : ∀ y, IsReal (wq y)) (hk : ∀ y, IsReal (k y)) (c : Dev nD) :
    outAt m ρ c = Ref.out x wq k v wo := by
  rw [outAt_eq]
  funext z
  refine (fin_apply c (acc m ρ 5 c) (woin m ρ c) z).trans ?_
  idx_vars z
  rw [Ref.out_eq]
  have hA : facc c (acc m ρ 5 c) = Acc x wq (fun d => fk d (kin m ρ d)) (fun d => fv d (vin m ρ d)) := by
    funext y
    refine (acc_all m ρ c y).trans (Finset.sum_congr rfl fun d _ => ?_)
    unfold Part
    rw [h0, h1]
  unfold Out
  rw [hA, h4]
  exact Finset.sum_congr rfl fun q _ => congrArg (· * wo (ix2 q z2)) (ctx_eq x wq k v _ _ h2 h3 hx hwq hk z0 z1 q)

end Result

end Cert.Value

namespace Cert.Proof

open Idealize.ShloMosaic Idealize.SL.Sem Cert.Value

theorem algebraic : Cert.algebraic_KernelIdeal_ReferenceIdeal_pre_finite_KernelIdeal := by
  intro m ρ m' ρ' hpre hag
  refine ⟨Cert.ReferenceIdeal.Value.res_out0 m' 0, ?_, ?_⟩
  · refine (θ_run Cert.KernelIdeal.defs _ _).mono (fun _ h c => ⟨(h.1 c).1.trans ?_, (h.1 c).2⟩)
      (Cert.KernelIdealRun.run_arrays (F := Ideal) m ρ)
    rw [Ref.res_eq]
    have hr := fun d => real_of_pre _ _ _ _ _ (hpre d)
    refine outAt_out m ρ _ _ _ _ _ (fun d => (Cert.KernelIdealRun.xin_eq m ρ d).trans (hag d).1)
      (fun d => (Cert.KernelIdealRun.wqin_eq m ρ d).trans (hag d).2.1) (fun d b t h e => ?_) (fun d b t h e => ?_)
      (fun d => (Cert.KernelIdealRun.woin_eq m ρ d).trans (hag d).2.2.2.2)
      (fun y => (hag 0).1 ▸ (hr 0).1 y) (fun y => (hag 0).2.1 ▸ (hr 0).2.1 y) (block_real _ fun d y => (hag d).2.2.1 ▸ (hr d).2.2 y) c
    · exact (congrFun ((Cert.KernelIdealRun.kin_eq m ρ d).trans (hag d).2.2.1) (ix4 b t h e)).trans (block_key _ d b t h e)
    · exact (congrFun ((Cert.KernelIdealRun.vin_eq m ρ d).trans (hag d).2.2.2.1) (ix4 b t h e)).trans (block_key _ d b t h e)
  · exact (θ_run Cert.ReferenceIdeal.defs _ _).mono (fun _ h => h 0) (Cert.ReferenceIdeal.Value.run (F := Ideal) m' ρ')

end Cert.Proof

end
-- ==== Proof.lean ====
/-
  The certificate: the frames of the three programs, the kernel's idealization, and the value claim.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite,
    trivial, algebraic⟩

end Cert.Proof

end
